-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16x2048x2048 : Shape := ⟨4, ![1, 16, 2048, 2048]⟩
abbrev S16x2048x2048 : Shape := ⟨3, ![16, 2048, 2048]⟩
abbrev S1x256x2048 : Shape := ⟨3, ![1, 256, 2048]⟩
abbrev S1x2048x2048 : Shape := ⟨3, ![1, 2048, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S16x1 : Shape := ⟨2, ![16, 1]⟩
abbrev S1x1 : Shape := ⟨2, ![1, 1]⟩
abbrev S16x2048 : Shape := ⟨2, ![16, 2048]⟩
abbrev S16 : Shape := ⟨1, ![16]⟩
abbrev S1 : Shape := ⟨1, ![1]⟩
abbrev S256x768 : Shape := ⟨2, ![256, 768]⟩
abbrev S1x768 : Shape := ⟨2, ![1, 768]⟩
abbrev S1x256x768 : Shape := ⟨3, ![1, 256, 768]⟩

abbrev nBuf : Space → Nat
  | .hbm => 4
  | .vmem => 7
  | .smem => 0
  | _ => 0

abbrev bufTy : (tb : Table) → Fin (tcTables nBuf tb) → BufTy
  | .hbm, ⟨0, _⟩ => ⟨S1x16x2048x2048, .f32⟩
  | .hbm, ⟨1, _⟩ => ⟨S16x2048x2048, .f32⟩
  | .hbm, ⟨2, _⟩ => ⟨S16x2048x2048, .f32⟩
  | .hbm, ⟨3, _⟩ => ⟨S1x16x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048x2048, .f32⟩
  | .local _ .vmem, ⟨3, _⟩ => ⟨S1x2048x2048, .f32⟩
  | .local _ .vmem, ⟨4, _⟩ => ⟨S2048x2048, .f32⟩
  | .local _ .vmem, ⟨5, _⟩ => ⟨S1x2048, .f32⟩
  | .local _ .vmem, ⟨6, _⟩ => ⟨S1x2048, .i32⟩
  | _, _ => ⟨S1x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c256_i32 : BitVec 32 := 256#32
  let v25 : BitVec 32 := Scalar.muli arg1 c256_i32
  let v26 : Index := Scalar.indexCast v25
  let c0_10 : Index := 0#32
  ![v26.toNat, 0]
def k0_cond4 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_71 : BitVec 32 := 0#32
  let c8_i32_72 : BitVec 32 := 8#32
  let v274 : BitVec 32 := Scalar.addi c0_i32_71 c8_i32_72
  let c1_i32 : BitVec 32 := 1#32
  ⟨c0_i32_71, v274, c1_i32⟩
def k0_off2 (k0_t1 : Fin k0_t1_loop.trips) : Fin 2 → Nat :=
  let c0_i32_71 : BitVec 32 := 0#32
  let c1_i32 : BitVec 32 := 1#32
  let arg7 : BitVec 32 := Scf.iv c0_i32_71 c1_i32 k0_t1
  let c256_i32 : BitVec 32 := 256#32
  let v275 : BitVec 32 := Scalar.muli arg7 c256_i32
  let v276 : Index := Scalar.indexCast v275
  let c0_74 : Index := 0#32
  ![v276.toNat, 0]
def k0_off3 (k0_t1 : Fin k0_t1_loop.trips) : Fin 3 → Nat :=
  let c0_75 : Index := 0#32
  let c0_i32_71 : BitVec 32 := 0#32
  let c1_i32 : BitVec 32 := 1#32
  let arg7 : BitVec 32 := Scf.iv c0_i32_71 c1_i32 k0_t1
  let c256_i32 : BitVec 32 := 256#32
  let v275 : BitVec 32 := Scalar.muli arg7 c256_i32
  let v282 : Index := Scalar.indexCast v275
  let c0_76 : Index := 0#32
  ![0, v282.toNat, 0]
def k0_mult1 (k0_t1 : Fin k0_t1_loop.trips) : BitVec 32 :=
  let c0_i32_71 : BitVec 32 := 0#32
  let c1_i32 : BitVec 32 := 1#32
  let arg7 : BitVec 32 := Scf.iv c0_i32_71 c1_i32 k0_t1
  let c256_i32 : BitVec 32 := 256#32
  let v275 : BitVec 32 := Scalar.muli arg7 c256_i32
  let c256_i32_77 : BitVec 32 := 256#32
  let v286 : BitVec 32 := Scalar.subi v275 c256_i32_77
  let c0_i32_78 : BitVec 32 := 0#32
  let v287 : BitVec 32 := Scalar.maxsi v286 c0_i32_78
  let c1280_i32 : BitVec 32 := 1280#32
  let v288 : BitVec 32 := Scalar.minsi v287 c1280_i32
  v288
def k0_off4 (k0_t1 : Fin k0_t1_loop.trips) : Fin 2 → Nat :=
  let c0_i32_71 : BitVec 32 := 0#32
  let c1_i32 : BitVec 32 := 1#32
  let arg7 : BitVec 32 := Scf.iv c0_i32_71 c1_i32 k0_t1
  let c256_i32 : BitVec 32 := 256#32
  let v275 : BitVec 32 := Scalar.muli arg7 c256_i32
  let v303 : Index := Scalar.indexCast v275
  let c256_i32_77 : BitVec 32 := 256#32
  let v286 : BitVec 32 := Scalar.subi v275 c256_i32_77
  let c0_i32_78 : BitVec 32 := 0#32
  let v287 : BitVec 32 := Scalar.maxsi v286 c0_i32_78
  let c1280_i32 : BitVec 32 := 1280#32
  let v288 : BitVec 32 := Scalar.minsi v287 c1280_i32
  let v289 : BitVec 32 := v288
  let v304 : Index := Scalar.indexCast v289
  ![v303.toNat, v304.toNat]
def k0_off5 (k0_t1 : Fin k0_t1_loop.trips) : Fin 2 → Nat :=
  let c0_81 : Index := 0#32
  let c0_i32_71 : BitVec 32 := 0#32
  let c1_i32 : BitVec 32 := 1#32
  let arg7 : BitVec 32 := Scf.iv c0_i32_71 c1_i32 k0_t1
  let c256_i32 : BitVec 32 := 256#32
  let v275 : BitVec 32 := Scalar.muli arg7 c256_i32
  let c256_i32_77 : BitVec 32 := 256#32
  let v286 : BitVec 32 := Scalar.subi v275 c256_i32_77
  let c0_i32_78 : BitVec 32 := 0#32
  let v287 : BitVec 32 := Scalar.maxsi v286 c0_i32_78
  let c1280_i32 : BitVec 32 := 1280#32
  let v288 : BitVec 32 := Scalar.minsi v287 c1280_i32
  let v289 : BitVec 32 := v288
  let v306 : Index := Scalar.indexCast v289
  ![0, v306.toNat]
def k0_off6 (k0_t1 : Fin k0_t1_loop.trips) : Fin 3 → Nat :=
  let c0_83 : Index := 0#32
  let c0_i32_71 : BitVec 32 := 0#32
  let c1_i32 : BitVec 32 := 1#32
  let arg7 : BitVec 32 := Scf.iv c0_i32_71 c1_i32 k0_t1
  let c256_i32 : BitVec 32 := 256#32
  let v275 : BitVec 32 := Scalar.muli arg7 c256_i32
  let v314 : Index := Scalar.indexCast v275
  let c256_i32_77 : BitVec 32 := 256#32
  let v286 : BitVec 32 := Scalar.subi v275 c256_i32_77
  let c0_i32_78 : BitVec 32 := 0#32
  let v287 : BitVec 32 := Scalar.maxsi v286 c0_i32_78
  let c1280_i32 : BitVec 32 := 1280#32
  let v288 : BitVec 32 := Scalar.minsi v287 c1280_i32
  let v289 : BitVec 32 := v288
  let v315 : Index := Scalar.indexCast v289
  ![0, v314.toNat, v315.toNat]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x16x1 : Shape := ⟨3, ![1, 16, 1]⟩
abbrev S1x16x204 : Shape := ⟨3, ![1, 16, 204]⟩
abbrev S1 : Shape := ⟨1, ![1]⟩
abbrev S1x1x1 : Shape := ⟨3, ![1, 1, 1]⟩
abbrev S16 : Shape := ⟨1, ![16]⟩
abbrev S1x16x204x1 : Shape := ⟨4, ![1, 16, 204, 1]⟩
abbrev S1x16x204x3 : Shape := ⟨4, ![1, 16, 204, 3]⟩
abbrev S1x16x1x2048 : Shape := ⟨4, ![1, 16, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩

abbrev nBuf : Space → Nat
  | .hbm => 83
  | .vmem => 0
  | .smem => 0
  | _ => 0

abbrev bufTy : (tb : Table) → Fin (tcTables nBuf tb) → BufTy
  | .hbm, ⟨0, _⟩ => ⟨S1x16x2048x2048, .f32⟩
  | .hbm, ⟨1, _⟩ => ⟨S_, .f32⟩
  | .hbm, ⟨2, _⟩ => ⟨S1x16x2048, .f32⟩
  | .hbm, ⟨3, _⟩ => ⟨S_, .f32⟩
  | .hbm, ⟨4, _⟩ => ⟨S1x16x2048, .f32⟩
  | .hbm, ⟨5, _⟩ => ⟨S1x16x2048, .f32⟩
  | .hbm, ⟨6, _⟩ => ⟨S1x16x2048x1, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S_, .f32⟩
  | .hbm, ⟨16, _⟩ => ⟨S1x16x2048, .f32⟩
  | .hbm, ⟨17, _⟩ => ⟨S1x16x2048, .f32⟩
  | .hbm, ⟨18, _⟩ => ⟨S1x16x1, .f32⟩
  | .hbm, ⟨19, _⟩ => ⟨S1x16x1, .i32⟩
  | .hbm, ⟨20, _⟩ => ⟨S1x16x204, .f32⟩
  | .hbm, ⟨21, _⟩ => ⟨S1x16x204, .i32⟩
  | .hbm, ⟨22, _⟩ => ⟨S1, .i32⟩
  | .hbm, ⟨23, _⟩ => ⟨S1x1x1, .i32⟩
  | .hbm, ⟨24, _⟩ => ⟨S16, .i32⟩
  | .hbm, ⟨25, _⟩ => ⟨S1x16x1, .i32⟩
  | .hbm, ⟨26, _⟩ => ⟨S_, .i1⟩
  | .hbm, ⟨27, _⟩ => ⟨S1x16x2048, .i1⟩
  | .hbm, ⟨28, _⟩ => ⟨S_, .i32⟩
  | .hbm, ⟨29, _⟩ => ⟨S1x1x1, .i32⟩
  | .hbm, ⟨30, _⟩ => ⟨S1x1x1, .i1⟩
  | .hbm, ⟨31, _⟩ => ⟨S_, .i32⟩
  | .hbm, ⟨32, _⟩ => ⟨S1x1x1, .i32⟩
  | .hbm, ⟨33, _⟩ => ⟨S1x1x1, .i32⟩
  | .hbm, ⟨34, _⟩ => ⟨S1x1x1, .i32⟩
  | .hbm, ⟨35, _⟩ => ⟨S_, .i32⟩
  | .hbm, ⟨36, _⟩ => ⟨S1x16x1, .i32⟩
  | .hbm, ⟨37, _⟩ => ⟨S1x16x1, .i1⟩
  | .hbm, ⟨38, _⟩ => ⟨S_, .i32⟩
  | .hbm, ⟨39, _⟩ => ⟨S1x16x1, .i32⟩
  | .hbm, ⟨40, _⟩ => ⟨S1x16x1, .i32⟩
  | .hbm, ⟨41, _⟩ => ⟨S1x16x1, .i32⟩
  | .hbm, ⟨42, _⟩ => ⟨S_, .i32⟩
  | .hbm, ⟨43, _⟩ => ⟨S1x16x204, .i32⟩
  | .hbm, ⟨44, _⟩ => ⟨S1x16x204, .i1⟩
  | .hbm, ⟨45, _⟩ => ⟨S_, .i32⟩
  | .hbm, ⟨46, _⟩ => ⟨S1x16x204, .i32⟩
  | .hbm, ⟨47, _⟩ => ⟨S1x16x204, .i32⟩
  | .hbm, ⟨48, _⟩ => ⟨S1x16x204, .i32⟩
  | .hbm, ⟨49, _⟩ => ⟨S1x16x204, .i32⟩
  | .hbm, ⟨50, _⟩ => ⟨S1x16x204, .i32⟩
  | .hbm, ⟨51, _⟩ => ⟨S1x16x204x1, .i32⟩
  | .hbm, ⟨52, _⟩ => ⟨S1x16x204x1, .i32⟩
  | .hbm, ⟨53, _⟩ => ⟨S1x16x204x1, .i32⟩
  | .hbm, ⟨54, _⟩ => ⟨S1x16x204x3, .i32⟩
  | .hbm, ⟨55, _⟩ => ⟨S_, .i1⟩
  | .hbm, ⟨56, _⟩ => ⟨S1x16x204, .i1⟩
  | .hbm, ⟨57, _⟩ => ⟨S1x16x2048, .i1⟩
  | .hbm, ⟨58, _⟩ => ⟨S1x16x1x2048, .i1⟩
  | .hbm, ⟨59, _⟩ => ⟨S1x16x2048x2048, .i1⟩
  | .hbm, ⟨60, _⟩ => ⟨S2048, .i32⟩
  | .hbm, ⟨61, _⟩ => ⟨S2048x1, .i32⟩
  | .hbm, ⟨62, _⟩ => ⟨S2048, .i32⟩
  | .hbm, ⟨63, _⟩ => ⟨S1x2048, .i32⟩
  | .hbm, ⟨64, _⟩ => ⟨S_, .i32⟩
  | .hbm, ⟨65, _⟩ => ⟨S2048x1, .i32⟩
  | .hbm, ⟨66, _⟩ => ⟨S2048x1, .i32⟩
  | .hbm, ⟨67, _⟩ => ⟨S2048x2048, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S2048x1, .i32⟩
  | .hbm, ⟨72, _⟩ => ⟨S2048x1, .i32⟩
  | .hbm, ⟨73, _⟩ => ⟨S2048x2048, .i32⟩
  | .hbm, ⟨74, _⟩ => ⟨S2048x2048, .i32⟩
  | .hbm, ⟨75, _⟩ => ⟨S2048x2048, .i1⟩
  | .hbm, ⟨76, _⟩ => ⟨S2048x2048, .i1⟩
  | .hbm, ⟨77, _⟩ => ⟨S1x1x2048x2048, .i1⟩
  | .hbm, ⟨78, _⟩ => ⟨S1x16x2048x2048, .i1⟩
  | .hbm, ⟨79, _⟩ => ⟨S1x16x2048x2048, .i1⟩
  | .hbm, ⟨80, _⟩ => ⟨S_, .f32⟩
  | .hbm, ⟨81, _⟩ => ⟨S1x16x2048x2048, .f32⟩
  | .hbm, ⟨82, _⟩ => ⟨S1x16x2048x2048, .f32⟩
  | _, _ => ⟨S1x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_values_3 : Ref sig .tc := ⟨.hbm, 20, rfl⟩
abbrev main_indices_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_9 : Ref sig .tc := ⟨.hbm, 42, rfl⟩
abbrev main_v28 : Ref sig .tc := ⟨.hbm, 43, rfl⟩
abbrev main_v29 : Ref sig .tc := ⟨.hbm, 44, rfl⟩
abbrev main_c_10 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_call0_v0 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Proof.Trips.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.WritesUnit
public import Idealize.ShloMosaic.Lib.VecWindow
public import Idealize.ShloMosaic.Lib.WholeRead
public import Idealize.ShloMosaic.Lib.PointwiseCore
public import Idealize.ShloMosaic.Lib.Tactic.WordOmega

@[expose] public section

set_option maxRecDepth 16384

noncomputable section

namespace Cert.Proof

open Cert.KernelIdeal Cert.KernelIdeal.Gen
open Idealize.ShloMosaic Idealize.ShloMosaic.TcCoe Idealize.ShloMosaic.Tactic

variable {F : FTy → Type} [FloatOps F]

section
variable (𝒱 : Variants) (c : Dev nD) (bd : Option 𝒱.V) (i : grid0.Coords) (arg2 : Memref sig .tc .vmem S1x256x2048 .f32) (harg2 : arg2.IsWhole) (arg3 : Memref sig .tc .vmem S1x2048x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S1x2048 .i32) (harg6 : arg6.IsWhole) (k0_h4 : k0_cond4 i = 1#1) (v273 : IVec S1x2048 1) (cst_70 : F .f32) (c0_i32_71 : BitVec 32) (c1_i32 : BitVec 32) (X_arg4 : BufTy.Contents (Elt F) arg4.view.ty) (X_arg6 : BufTy.Contents (Elt F) arg6.view.ty) (k : Fin k0_t1_loop.trips)

/-- One trip of the writing loop stores the whole rows first and the slab around the diagonal second. -/
theorem trip_pieces :
    tripL_k0_t1 (F := F) 𝒱 c bd i arg2 harg2 arg3 harg3 arg4 harg4 arg5 harg5 arg6 harg6 k0_h4 v273 cst_70 c0_i32_71 c1_i32 X_arg4 X_arg6 k
      = [⟨Rect.unit (s := S1x2048x2048) (k0_off6 k) S1x256x768.size (k0_off6_inb i k k0_h4), k0_pay7 cst_70 c0_i32_71 c1_i32 k
            (View.readAt (Elt F) arg4.view (Rect.unit (s := S2048x2048) (k0_off4 k) S256x768.size (k0_off4_inb i k k0_h4)).toLoadRect X_arg4)
            (View.readAt (Elt F) arg6.view (Rect.unit (s := S1x2048) (k0_off5 k) S1x768.size (k0_off5_inb i k k0_h4)).toLoadRect X_arg6)⟩,
         ⟨Rect.unit (s := S1x2048x2048) (k0_off3 k) S1x256x2048.size (k0_off3_inb i k k0_h4), k0_pay6 v273 cst_70
            (View.readAt (Elt F) arg4.view (Rect.unit (s := S2048x2048) (k0_off2 k) S256x2048.size (k0_off2_inb i k k0_h4)).toLoadRect X_arg4)⟩] := by
  unfold tripL_k0_t1 trip_k0_t1
  rfl
end

/-- The first column of the slab of trip `k`. -/
def slab (k : ℕ) : ℕ := min (256 * k - 256) 1280

/-- The band window of row block `k` starts at its first row and at the slab's first column. -/
theorem off4_eq : ∀ k : Fin k0_t1_loop.trips, k0_off4 k = ![256 * k.val, slab k.val] := by decide +kernel
/-- The flags' part of row block `k` starts at the slab's first column. -/
theorem off5_eq : ∀ k : Fin k0_t1_loop.trips, k0_off5 k = ![0, slab k.val] := by decide +kernel
/-- The result's part of row block `k` starts at its first row and at the slab's first column. -/
theorem off6_eq : ∀ k : Fin k0_t1_loop.trips, k0_off6 k = ![0, 256 * k.val, slab k.val] := by decide +kernel

/-- The band: column at most 204 away from the row. -/
def near (r l : ℕ) : Prop := l ≤ r + 204 ∧ r ≤ l + 204
instance (r l : ℕ) : Decidable (near r l) := by unfold near; infer_instance

/-- The word of the first row of trip `k`. -/
theorem word_row : ∀ k : Fin k0_t1_loop.trips, Scalar.muli (Scf.iv 0#32 1#32 k.val) 256#32 = BitVec.ofNat 32 (256 * k.val) := by decide +kernel
/-- The word of the first column of the slab of trip `k`. -/
theorem word_slab : ∀ k : Fin k0_t1_loop.trips, Scalar.minsi (Scalar.maxsi (Scalar.subi (BitVec.ofNat 32 (256 * k.val)) 256#32) 0#32) 1280#32 = BitVec.ofNat 32 (slab k.val) := by decide +kernel

/-- What the whole-row store of a trip writes at an index: the row's entry in a flagged column, the fill elsewhere. -/
theorem pay6_at (v273 : IVec S1x2048 1) (cst : F .f32) (x : Vec F S256x2048 .f32) (r : Fin 256) (l : Fin 2048) :
    k0_pay6 v273 cst x (ix3 0 r l) = if v273 (ix2 0 l) = 1#1 then x (ix2 r l) else cst := by
  pointwise [k0_pay6]
  rfl

/-- Numbers below four thousand as words: the band test of the kernel is the band. -/
theorem near_words (s l R r : ℕ) (hs : s ≤ 2048) (hl : l ≤ 2048) (hR : R ≤ 2048) (hr : r ≤ 2048) :
    IntOp.andi (IntOp.cmpi .sle (IntOp.addi (BitVec.ofNat 32 l) (BitVec.ofNat 32 s)) (IntOp.addi (IntOp.addi (BitVec.ofNat 32 r) (BitVec.ofNat 32 R)) 204#32))
      (IntOp.cmpi .sge (IntOp.addi (BitVec.ofNat 32 l) (BitVec.ofNat 32 s)) (IntOp.subi (IntOp.addi (BitVec.ofNat 32 r) (BitVec.ofNat 32 R)) 204#32)) = 1#1
    ↔ near (R + r) (s + l) := by
  have e : ∀ x : BitVec 32, IntOp.subi x 204#32 = IntOp.addi x 4294967092#32 := fun x => BitVec.sub_eq_add_neg x 204#32
  unfold near
  rw [e]
  word_omega

/-- What the slab store of a trip writes at an index. -/
theorem pay7_at (cst : F .f32) (k : Fin k0_t1_loop.trips) (x : Vec F S256x768 .f32) (h : Vec F S1x768 .i32) (r : Fin 256) (l : Fin 768) :
    k0_pay7 cst 0#32 1#32 k x h (ix3 0 r l)
      = if near (256 * k.val + r.val) (slab k.val + l.val) ∨ h (ix2 0 l) ≠ 0#32 then x (ix2 r l) else cst := by
  have hk : k.val < 8 := Nat.lt_of_lt_of_le k.isLt k0_t1_abs.2.1
  pointwise [k0_pay7]
  rw [word_row, word_slab]
  have e := near_words (slab k.val) l.val (256 * k.val) r.val (by unfold slab; omega) (by omega) (by omega) (by omega)
  generalize IntOp.andi _ _ = b at e ⊢
  unfold Scalar.select
  refine if_congr ?_ rfl rfl
  rw [← e]
  generalize h (ix2 0 l) = w
  clear e hk
  have hne : w ≠ 0#32 → (w != 0#32) = true := fun h => bne_iff_ne.mpr h
  rcases BitVec.eq_zero_or_eq_one b with rfl | rfl
  · by_cases hw : w = 0#32 <;> simp [IntOp.ori, IntOp.cmpi, hw, hne]
  · by_cases hw : w = 0#32 <;> simp [IntOp.ori, IntOp.cmpi, hw, hne]

/-- The written block of a head: an entry near the diagonal or in a flagged column is kept, every other is the fill. -/
def outBlk (x : Vec F S2048x2048 .f32) (fl : IVec S1x2048 32) : Vec F S1x2048x2048 .f32 := fun y =>
  if near (y 1).val (y 2).val ∨ fl (ix2 0 (y 2)) ≠ 0#32 then x (ix2 (y 1) (y 2)) else Scalar.ofBits .f32 0xFF7FFFFF#32

/-- The flag of a column as a condition: set exactly when the column's word is not zero. -/
theorem pay26_at (fl : Vec F S1x2048 .i32) (l : Fin 2048) : (k0_pay26 fl (ix2 0 l) = 1#1) ↔ fl (ix2 0 l) ≠ 0#32 := by
  pointwise [k0_pay26]
  generalize fl (ix2 0 l) = w
  have hne : w ≠ 0#32 → (w != 0#32) = true := fun h => bne_iff_ne.mpr h
  by_cases hw : w = 0#32 <;> simp [IntOp.cmpi, hw, hne]

/-- The pieces of the first `n` trips write the first `256 n` rows of the block and leave the others. -/
theorem rows_written (c : Dev nD) (i : grid0.Coords) (arg2 : Memref sig .tc .vmem S1x256x2048 .f32) (harg2 : arg2.IsWhole) (arg3 : Memref sig .tc .vmem S1x2048x2048 .f32) (harg3 : arg3.IsWhole) (arg4 : Memref sig .tc .vmem S2048x2048 .f32) (harg4 : arg4.IsWhole) (arg5 : Memref sig .tc .vmem S1x2048 .f32) (harg5 : arg5.IsWhole) (arg6 : Memref sig .tc .vmem S1x2048 .i32) (harg6 : arg6.IsWhole) (h4 : k0_cond4 i = 1#1)
    (x : Vec F S2048x2048 .f32) (fl : Vec F S1x2048 .i32)
    (X4 : BufTy.Contents (Elt F) arg4.view.ty) (X6 : BufTy.Contents (Elt F) arg6.view.ty)
    (e4 : View.read (Elt F) arg4.view X4 = x) (e6 : View.read (Elt F) arg6.view X6 = fl) (f : BufTy.Contents (Elt F) arg3.view.ty)
    (n : ℕ) (hn : n ≤ k0_t1_loop.trips) (r l : Fin 2048) :
    View.read (Elt F) arg3.view (arg3.view.writes (Elt F) f
        (pb_k0_t1 Variants.none c none i arg2 harg2 arg3 harg3 arg4 harg4 arg5 harg5 arg6 harg6 h4 (k0_pay26 fl) (Scalar.ofBits .f32 0xFF7FFFFF#32) 0#32 1#32 X4 X6 n)) (ix3 0 r l)
      = if r.val < 256 * n then outBlk x fl (ix3 0 r l) else View.read (Elt F) arg3.view f (ix3 0 r l) := by
  induction n with
  | zero => rw [if_neg (by omega)]; rfl
  | succ n ih =>
    have hk : n < 8 := Nat.lt_of_lt_of_le hn k0_t1_abs.2.1
    have hsl : slab n = min (256 * n - 256) 1280 := rfl
    have ih := ih (Nat.le_of_succ_le hn)
    rw [pb_k0_t1_succ Variants.none c none i arg2 harg2 arg3 harg3 arg4 harg4 arg5 harg5 arg6 harg6 h4 _ _ _ _ X4 X6 ⟨n, hn⟩, trip_pieces]
    simp only [List.cons_append, List.nil_append]
    rw [View.readAt_unit _ _ _ (off4_eq ⟨n, hn⟩) (by rw [← off4_eq ⟨n, hn⟩]; exact k0_off4_inb i _ h4),
      View.readAt_unit _ _ _ (off5_eq ⟨n, hn⟩) (by rw [← off5_eq ⟨n, hn⟩]; exact k0_off5_inb i _ h4),
      View.readAt_unit _ _ _ (k0_off2_eq ⟨n, hn⟩) (by rw [← k0_off2_eq ⟨n, hn⟩]; exact k0_off2_inb i _ h4), e4, e6]
    by_cases hr : 256 * n ≤ r.val ∧ r.val < 256 * n + 256
    · rw [if_pos (by omega)]
      by_cases hl : slab n ≤ l.val ∧ l.val < slab n + 768
      · rw [View.read_writes_cons_unit_of_mem _ _ _ _ _ _ (ix3 0 ⟨r.val - 256 * n, by omega⟩ ⟨l.val - slab n, by omega⟩) (off6_eq ⟨n, hn⟩)
          (by intro a; fin_cases a <;> simp <;> omega)]
        refine (pay7_at _ _ _ _ _ _).trans ?_
        have e1 : 256 * n + (r.val - 256 * n) = r.val := by omega
        have e2 : slab n + (l.val - slab n) = l.val := by omega
        unfold outBlk
        refine if_congr ?_ ?_ rfl
        · show near (256 * n + (r.val - 256 * n)) (slab n + (l.val - slab n)) ∨ fl _ ≠ 0#32 ↔ near r.val l.val ∨ fl (ix2 0 l) ≠ 0#32
          rw [e1, e2]
          refine or_congr Iff.rfl (not_congr (Eq.congr_left (congrArg fl ?_)))
          funext a; fin_cases a <;> apply Fin.ext <;> simp <;> omega
        · refine congrArg x ?_
          funext a; fin_cases a <;> apply Fin.ext <;> simp <;> omega
      · rw [View.read_writes_cons_unit_of_not_mem _ _ _ _ _ _ (off6_eq ⟨n, hn⟩) (2 : Fin 3)
            (show l.val < slab n ∨ slab n + 768 ≤ l.val by omega),
          View.read_writes_cons_unit_of_mem _ _ _ _ _ _ (ix3 0 ⟨r.val - 256 * n, by omega⟩ l) (k0_off3_eq ⟨n, hn⟩)
          (by intro a; fin_cases a <;> simp <;> omega)]
        refine (pay6_at _ _ _ _ _).trans ?_
        unfold outBlk
        refine if_congr ((pay26_at fl l).trans ?_) ?_ rfl
        · show fl (ix2 0 l) ≠ 0#32 ↔ near r.val l.val ∨ fl (ix2 0 l) ≠ 0#32
          exact ⟨Or.inr, fun h => h.resolve_left fun h => hl (by unfold near at h; omega)⟩
        · refine congrArg x ?_
          funext a; fin_cases a <;> apply Fin.ext <;> simp <;> omega
    · rw [View.read_writes_cons_unit_of_not_mem _ _ _ _ _ _ (off6_eq ⟨n, hn⟩) (1 : Fin 3)
          (show r.val < 256 * n ∨ 256 * n + 256 ≤ r.val by omega),
        View.read_writes_cons_unit_of_not_mem _ _ _ _ _ _ (k0_off3_eq ⟨n, hn⟩) (1 : Fin 3)
          (show r.val < 256 * n ∨ 256 * n + 256 ≤ r.val by omega)]
      refine ih.trans ?_
      by_cases h : r.val < 256 * n
      · rw [if_pos h, if_pos (by omega)]
      · rw [if_neg h, if_neg (by omega)]

end Cert.Proof

end
-- ==== Proof.Runs.lean ====
module

public import proofs.«01_k».proof.Proof.Trips
public import proofs.«01_k».proof.Proof.Gen.KernelIdeal.Loops
public import proofs.«01_k».proof.Proof.Gen.KernelIdeal.Skeleton
public import Idealize.ShloMosaic.Lib.WritesUnit
public import Idealize.ShloMosaic.Lib.VecWindow
public import Idealize.ShloMosaic.Lib.WholeRead
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The step counter is below eight: a step that reads a row block. -/
abbrev isRead (i : grid0.Coords) : Prop := k0_cond1 i = 1#1
/-- The step counter is zero. -/
abbrev isFirst (i : grid0.Coords) : Prop :=
  (Scalar.cmpi .ne (Scalar.extui (Scalar.cmpi .eq (BitVec.ofNat 32 (i 1).val) 0#32)) 0#32) = 1#1
/-- The step counter is positive. -/
abbrev isLater (i : grid0.Coords) : Prop :=
  (Scalar.cmpi .ne (Scalar.extui (Scalar.cmpi .sgt (BitVec.ofNat 32 (i 1).val) 0#32)) 0#32) = 1#1
/-- The step counter is eight: the step that writes the result. -/
abbrev isLast (i : grid0.Coords) : Prop := k0_cond4 i = 1#1

/-- A step reads a row block exactly when its position is not eight modulo nine. -/
theorem isRead_iff : ∀ t : Fin cfg0.N, isRead (grid0.coords t) ↔ t.val % 9 ≤ 7 :=
  (by decide +kernel : ∀ t : Fin grid0.N, isRead (grid0.coords t) ↔ t.val % 9 ≤ 7)
/-- The first step of a head is at the positions divisible by nine. -/
theorem isFirst_iff : ∀ t : Fin cfg0.N, isFirst (grid0.coords t) ↔ t.val % 9 = 0 :=
  (by decide +kernel : ∀ t : Fin grid0.N, isFirst (grid0.coords t) ↔ t.val % 9 = 0)
/-- The later steps of a head are at the other positions. -/
theorem isLater_iff : ∀ t : Fin cfg0.N, isLater (grid0.coords t) ↔ 1 ≤ t.val % 9 :=
  (by decide +kernel : ∀ t : Fin grid0.N, isLater (grid0.coords t) ↔ 1 ≤ t.val % 9)
/-- The writing step of a head is at the positions eight modulo nine. -/
theorem isLast_iff : ∀ t : Fin cfg0.N, isLast (grid0.coords t) ↔ t.val % 9 = 8 :=
  (by decide +kernel : ∀ t : Fin grid0.N, isLast (grid0.coords t) ↔ t.val % 9 = 8)

/-- The copy of the head with the row block of step `i` stored into it. -/
def putRows (i : grid0.Coords) (x4 : Vec F S2048x2048 .f32) (x0 : Vec F S1x256x2048 .f32) : Vec F S2048x2048 .f32 :=
  VecWindow.put x4 (k0_off1 i) S256x2048.size (k0_pay5 x0)

/-- The scratch copy of a head, the running column sums and the column flags, as memrefs. -/
abbrev copyM : Memref sig .tc .vmem S2048x2048 .f32 := Memref.whole cc0_scratch0
abbrev sumsM : Memref sig .tc .vmem S1x2048 .f32 := Memref.whole cc0_scratch1
abbrev flagsM : Memref sig .tc .vmem S1x2048 .i32 := Memref.whole cc0_scratch2

/-- The kernel body on any staging memrefs and its own scratch. -/
abbrev bodyOn (i : grid0.Coords) (arg2 : Memref sig .tc .vmem S1x256x2048 .f32) (harg2 : arg2.IsWhole) (arg3 : Memref sig .tc .vmem S1x2048x2048 .f32) (harg3 : arg3.IsWhole) :
    Prog (TpuEff nD τ sig (Elt F) Λ₀ .tc) PUnit :=
  cc0__fused_kernel i arg2 harg2 arg3 harg3 copyM (Memref.isWhole_whole _) sumsM (Memref.isWhole_whole _) flagsM (Memref.isWhole_whole _)

set_option maxHeartbeats 1000000 in
/-- The first step of a head: the running sums start from the row block's own, the row block goes into the copy. -/
theorem run_first (c : Dev nD) (i : grid0.Coords) (arg2 : Memref sig .tc .vmem S1x256x2048 .f32) (harg2 : arg2.IsWhole) (arg3 : Memref sig .tc .vmem S1x2048x2048 .f32) (harg3 : arg3.IsWhole)
    (h1 : isRead i) (h2 : isFirst i) (h3 : ¬ isLater i) (h4 : ¬ isLast i)
    (x0 : Vec F S1x256x2048 .f32) (y : Vec F S1x2048x2048 .f32) (x4 : Vec F S2048x2048 .f32) (E : Set ℕ) (K : PUnit → sProp 𝕄) :
    iprop(owns (c : Thread nD τ) arg2 fullShare x0 ∗ owns (c : Thread nD τ) arg3 fullShare y
        ∗ owns (c : Thread nD τ) copyM fullShare x4 ∗ (∃ d, owns (c : Thread nD τ) sumsM fullShare d)
        ∗ (iprop(owns (c : Thread nD τ) arg2 fullShare x0 ∗ owns (c : Thread nD τ) arg3 fullShare y
            ∗ owns (c : Thread nD τ) copyM fullShare (putRows i x4 x0)
            ∗ owns (c : Thread nD τ) sumsM fullShare (k0_pay3 x0)) -∗ K ⟨⟩))
      ⊢ wp frame (wpE (defs₀ (F := F)) Variants.none c none) E (bodyOn i arg2 harg2 arg3 harg3) K := by
  unfold bodyOn
  simp only [cc0__fused_kernel_eq_skeleton]; unfold cc0__fused_kernel_skel
  unfold owns
  iintro ⟨⟨%f0, %hf0, H0⟩, H1, ⟨%f4, %hf4, H4⟩, ⟨%d5, %f5, -, H5⟩, Hk⟩
  obtain rfl := harg2.eq_unread hf0
  obtain rfl := (Memref.isWhole_whole cc0_scratch0).eq_unread hf4
  sl_exec (disch := first | sl_exact h1 | sl_exact h2 | sl_exact h3 | sl_exact h4)
  sl_step
  iapply Hk
  isplitl [H0]
  · iexists _; isplitr; · ipureintro; exact harg2.read_unread _
    iexact H0
  isplitl [H1]; · iexact H1
  isplitl [H4]
  · iexists _; isplitr; swap; · iexact H4
    ipureintro
    rw [View.read_writes_cons_put _ _ _ _ _ rfl, View.writes_nil, hf4, View.readAt_full, hf0]; rfl
  · iexists _; isplitr; swap; · iexact H5
    ipureintro
    rw [View.readAt_full, hf0]
    exact View.read_writes_full _ _ _ _ _

set_option maxHeartbeats 1000000 in
/-- A later step of a head: the row block's column sums are added to the running ones, the row block goes into the
copy. -/
theorem run_later (c : Dev nD) (i : grid0.Coords) (arg2 : Memref sig .tc .vmem S1x256x2048 .f32) (harg2 : arg2.IsWhole) (arg3 : Memref sig .tc .vmem S1x2048x2048 .f32) (harg3 : arg3.IsWhole)
    (h1 : isRead i) (h2 : ¬ isFirst i) (h3 : isLater i) (h4 : ¬ isLast i)
    (x0 : Vec F S1x256x2048 .f32) (y : Vec F S1x2048x2048 .f32) (x4 : Vec F S2048x2048 .f32) (x5 : Vec F S1x2048 .f32) (E : Set ℕ) (K : PUnit → sProp 𝕄) :
    iprop(owns (c : Thread nD τ) arg2 fullShare x0 ∗ owns (c : Thread nD τ) arg3 fullShare y
        ∗ owns (c : Thread nD τ) copyM fullShare x4 ∗ owns (c : Thread nD τ) sumsM fullShare x5
        ∗ (iprop(owns (c : Thread nD τ) arg2 fullShare x0 ∗ owns (c : Thread nD τ) arg3 fullShare y
            ∗ owns (c : Thread nD τ) copyM fullShare (putRows i x4 x0)
            ∗ owns (c : Thread nD τ) sumsM fullShare (k0_pay4 x0 x5)) -∗ K ⟨⟩))
      ⊢ wp frame (wpE (defs₀ (F := F)) Variants.none c none) E (bodyOn i arg2 harg2 arg3 harg3) K := by
  unfold bodyOn
  simp only [cc0__fused_kernel_eq_skeleton]; unfold cc0__fused_kernel_skel
  unfold owns
  iintro ⟨⟨%f0, %hf0, H0⟩, H1, ⟨%f4, %hf4, H4⟩, ⟨%f5, %hf5, H5⟩, Hk⟩
  obtain rfl := harg2.eq_unread hf0
  obtain rfl := (Memref.isWhole_whole cc0_scratch0).eq_unread hf4
  obtain rfl := (Memref.isWhole_whole cc0_scratch1).eq_unread hf5
  sl_exec (disch := first | sl_exact h1 | sl_exact h2 | sl_exact h3 | sl_exact h4)
  sl_step
  iapply Hk
  isplitl [H0]
  · iexists _; isplitr; · ipureintro; exact harg2.read_unread _
    iexact H0
  isplitl [H1]; · iexact H1
  isplitl [H4]
  · iexists _; isplitr; swap; · iexact H4
    ipureintro
    rw [View.read_writes_cons_put _ _ _ _ _ rfl, View.writes_nil, hf4, View.readAt_full, hf0]; rfl
  · iexists _; isplitr; swap; · iexact H5
    ipureintro
    rw [View.read_writes_full]
    rw [View.readAt_full, hf0, View.readAt_full, hf5]

/-- The heavy-column flags of a head from its column sums, as the kernel computes them. -/
def flagsOf (v6 : Vec F S1x2048 .f32) : Vec F S1x2048 .i32 :=
  let v13 : IVec S1x2048 32 := k0_pay8 v6
  let v14 : IVec S16x1 32 := iota .tc S16x1 32 [0] iota_S16x1_d0_w32
  let v15 : IVec S1x1 32 := k0_pay9
  let v79 : IVec S1x1 32 := k0_pay13 v13 v14 v15 (k0_pay10 v6) k0_pay11 (k0_pay12 v6)
  let v97 : IVec S1x1 32 := k0_pay14 v13 v14 v15 (k0_pay10 v6) k0_pay11 (k0_pay12 v6)
  let v142 : IVec S1x1 32 := k0_pay15 v13 v14 v15 v79 v97
  let v186 : IVec S1x2048 1 := k0_pay18 v13 v14 v15 v142 k0_pay16
  let v188 : IVec S1x2048 1 := k0_pay19 v13 v14 v15 v142 k0_pay16
  let v191 : IVec S1x1 32 := k0_pay20 v13 v14 v15 v142 k0_pay16
  k0_pay25 v14 v186 v188 (k0_pay21 v191) (k0_pay22 v188) (k0_pay23 v14 v188 v191) (k0_pay24 v14 v188 v191)

set_option maxHeartbeats 1000000 in
/-- The writing step of a head: the result block is the copy kept on the band and in the flagged columns. -/
theorem run_last (c : Dev nD) (i : grid0.Coords) (arg2 : Memref sig .tc .vmem S1x256x2048 .f32) (harg2 : arg2.IsWhole) (arg3 : Memref sig .tc .vmem S1x2048x2048 .f32) (harg3 : arg3.IsWhole)
    (h1 : ¬ isRead i) (h4 : isLast i)
    (x0 : Vec F S1x256x2048 .f32) (x4 : Vec F S2048x2048 .f32) (x5 : Vec F S1x2048 .f32) (E : Set ℕ) (K : PUnit → sProp 𝕄) :
    iprop(owns (c : Thread nD τ) arg2 fullShare x0 ∗ (∃ d, owns (c : Thread nD τ) arg3 fullShare d)
        ∗ owns (c : Thread nD τ) copyM fullShare x4 ∗ owns (c : Thread nD τ) sumsM fullShare x5
        ∗ (∃ d, owns (c : Thread nD τ) flagsM fullShare d)
        ∗ (iprop(owns (c : Thread nD τ) arg2 fullShare x0 ∗ owns (c : Thread nD τ) arg3 fullShare (outBlk x4 (flagsOf x5))
            ∗ owns (c : Thread nD τ) copyM fullShare x4 ∗ owns (c : Thread nD τ) sumsM fullShare x5
            ∗ (∃ d, owns (c : Thread nD τ) flagsM fullShare d)) -∗ K ⟨⟩))
      ⊢ wp frame (wpE (defs₀ (F := F)) Variants.none c none) E (bodyOn i arg2 harg2 arg3 harg3) K := by
  unfold bodyOn
  simp only [cc0__fused_kernel_eq_skeleton]; unfold cc0__fused_kernel_skel
  unfold owns
  iintro ⟨⟨%f0, %hf0, H0⟩, ⟨%d1, %f1, -, H1⟩, ⟨%f4, %hf4, H4⟩, ⟨%f5, %hf5, H5⟩, ⟨%d6, %f6, -, H6⟩, Hk⟩
  obtain rfl := harg2.eq_unread hf0
  obtain rfl := (Memref.isWhole_whole cc0_scratch0).eq_unread hf4
  obtain rfl := (Memref.isWhole_whole cc0_scratch1).eq_unread hf5
  sl_exec (disch := first | sl_exact h1 | sl_exact h4)
  have e6 : View.read (Elt F) flagsM.view (flagsM.view.writes (Elt F) flagsM.view.junk (run_last.sl.H6_1 c x5)) = flagsOf x5 := by
    unfold run_last.sl.H6_1
    rw [View.read_writes_full]
    have e5 : View.readAt (Elt F) sumsM.view (Rect.unit ![0, 0] S1x2048.size inb_S1x2048_S1x2048_0_0).toLoadRect ((Memref.isWhole_whole cc0_scratch1).unread x5) = x5 := by
      rw [View.readAt_full, hf5]
    refine Eq.trans ?_ (congrArg flagsOf e5)
    sl_kernel_rfl
  have e26 : run_last.sl.r_3 c x5 = k0_pay26 (flagsOf x5) := by
    unfold run_last.sl.r_3
    refine congrArg k0_pay26 ?_
    unfold run_last.sl.v271 run_last.sl.H6_1
    rw [View.readCov_full]
    unfold run_last.sl.H6_1 at e6
    rw [View.read_writes_full] at e6
    exact e6
  sl_step
  iapply Hk
  isplitl [H0]
  · iexists _; isplitr; · ipureintro; exact harg2.read_unread _
    iexact H0
  isplitl [H1]
  · iexists _; isplitr; swap; · iexact H1
    ipureintro
    rw [e26]
    funext y
    obtain ⟨r, l, rfl⟩ : ∃ (r l : Fin 2048), y = ix3 0 r l := ⟨y 1, y 2, by
      funext a; fin_cases a
      · exact Fin.ext (Nat.lt_one_iff.mp (y 0).isLt)
      · rfl
      · rfl⟩
    refine (rows_written c i arg2 harg2 arg3 harg3 copyM _ sumsM _ flagsM _ h4 x4 (flagsOf x5) _ _ hf4 e6 f1 _ le_rfl _ _).trans ?_
    exact if_pos (show r.val < 256 * 8 from r.isLt)
  isplitl [H4]
  · iexists _; isplitr; swap; · iexact H4
    ipureintro; exact hf4
  isplitl [H5]
  · iexists _; isplitr; swap; · iexact H5
    ipureintro; exact hf5
  · iexists _; iexists _; isplitr; swap; · iexact H6
    ipureintro; rfl

end Cert.Proof

end
-- ==== Proof.Body.lean ====
module

public import proofs.«01_k».proof.Proof.Runs
public import proofs.«01_k».proof.Proof.Gen.KernelIdeal.Points
public import proofs.«01_k».proof.Proof.Gen.KernelIdeal.Launch

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch has 144 positions. -/
theorem N_eq : cfg0.N = 144 := N_0

/-- The row block the input window holds at position `n`. -/
def blkN (c : Dev nD) (n : ℕ) : Vec F S1x256x2048 .f32 :=
  iblk m c 0 ⟨n % 144, by rw [N_eq]; exact Nat.mod_lt _ (by decide)⟩

/-- At a position of the launch the row block is the input window's block. -/
theorem blkN_val (c : Dev nD) (t : Fin cfg0.N) : blkN m c t.val = iblk m c 0 t := by
  have e : ∀ (k : ℕ) (hk : k < cfg0.N), k = t.val → ((iblk m c 0 ⟨k, hk⟩ : Vec F S1x256x2048 .f32) = (iblk m c 0 t : Vec F S1x256x2048 .f32)) := by
    intro k hk h
    subst h
    rfl
  exact e _ _ (Nat.mod_eq_of_lt (lt_of_lt_of_eq t.isLt N_eq))

/-- The running column sums of head `h` after its step `s`. -/
def acc (c : Dev nD) (h : ℕ) : ℕ → Vec F S1x2048 .f32
  | 0 => k0_pay3 (blkN m c (9 * h))
  | s + 1 => k0_pay4 (blkN m c (9 * h + (s + 1))) (acc c h s)

/-- The rows of head `h`, block by block. -/
def rowsF (c : Dev nD) (h : ℕ) : Vec F S2048x2048 .f32 := fun y =>
  blkN m c (9 * h + (y 0).val / 256) (ix3 0 ⟨(y 0).val % 256, Nat.mod_lt _ (by decide)⟩ (y 1))

/-- The first `s` row blocks of the head are in the copy. -/
def copied (c : Dev nD) (n : ℕ) (d : Vec F S2048x2048 .f32) : Prop :=
  ∀ r l : Fin 2048, r.val < 256 * (n % 9) → d (ix2 r l) = rowsF m c (n / 9) (ix2 r l)

/-- The running sums are those after the step before, from the head's second step on. -/
def summed (c : Dev nD) (n : ℕ) (d : Vec F S1x2048 .f32) : Prop :=
  n % 9 ≠ 0 → d = acc m c (n / 9) (n % 9 - 1)

/-- What holds of the scratch buffers before position `n`. -/
def Inv (c : Dev nD) (n : ℕ) : sProp 𝕄 :=
  iprop(((∃ d, owns (c : Thread nD τ) copyM fullShare d ∗ ⌜copied m c n d⌝)
    ∗ (∃ d, owns (c : Thread nD τ) sumsM fullShare d ∗ ⌜summed m c n d⌝)
    ∗ (∃ d, owns (c : Thread nD τ) flagsM fullShare d)) ∗ (∃ r, prngReg c r))

/-- What a step copies is its row block. -/
theorem pay5_at (x : Vec F S1x256x2048 .f32) (r : Fin 256) (l : Fin 2048) : k0_pay5 x (ix2 r l) = x (ix3 0 r l) := by
  pointwise [k0_pay5, k0_pay1]

/-- The step counter is the position modulo nine. -/
theorem coord_eq : ∀ t : Fin cfg0.N, (grid0.coords t 1).val = t.val % 9 :=
  (by decide +kernel : ∀ t : Fin grid0.N, (grid0.coords t 1).val = t.val % 9)

/-- A reading step adds its row block to the copy. -/
theorem copied_step (c : Dev nD) (t : Fin cfg0.N) (h : t.val % 9 ≤ 7) (d : Vec F S2048x2048 .f32) (hd : copied m c t.val d) :
    copied m c (t.val + 1) (putRows (grid0.coords t) d (blkN m c t.val)) := by
  intro r l hr
  have e9 : (t.val + 1) % 9 = t.val % 9 + 1 := by omega
  have e8 : (t.val + 1) / 9 = t.val / 9 := by omega
  rw [e9] at hr
  rw [e8]
  unfold putRows VecWindow.put
  have eo : k0_off1 (grid0.coords t) = ![256 * (t.val % 9), 0] := by rw [k0_off1_eq, coord_eq]
  by_cases hin : 256 * (t.val % 9) ≤ r.val
  · rw [dif_pos (by rw [eo]; intro a; fin_cases a; · exact ⟨hin, by simpa using (by omega : r.val < 256 * (t.val % 9) + 256)⟩
                    · exact ⟨Nat.zero_le _, by simp⟩)]
    have e2 : 9 * (t.val / 9) + r.val / 256 = t.val := by omega
    have e1 : rowsF m c (t.val / 9) (ix2 r l) = blkN m c t.val (ix3 0 ⟨r.val - 256 * (t.val % 9), by omega⟩ l) := by
      show blkN m c (9 * (t.val / 9) + r.val / 256) (ix3 0 ⟨r.val % 256, _⟩ l) = _
      rw [e2]
      refine congrArg _ (congrArg (fun k => ix3 0 k l) (Fin.ext ?_))
      show r.val % 256 = r.val - 256 * (t.val % 9)
      omega
    refine Eq.trans ?_ ((pay5_at (blkN m c t.val) ⟨r.val - 256 * (t.val % 9), by omega⟩ l).trans e1.symm)
    refine congrArg (k0_pay5 (blkN m c t.val)) ?_
    funext a; apply Fin.ext
    rw [Rect.unitLocal_val, eo]
    fin_cases a <;> simp
  · rw [dif_neg (by rw [eo]; exact fun hall => hin (hall 0).1)]
    exact hd r l (by omega)

/-- The first step starts the running sums. -/
theorem summed_first (c : Dev nD) (n : ℕ) (h : n % 9 = 0) : summed m c (n + 1) (k0_pay3 (blkN m c n)) := by
  intro _
  rw [show (n + 1) / 9 = n / 9 by omega, show (n + 1) % 9 - 1 = 0 by omega]
  unfold acc
  rw [show 9 * (n / 9) = n by omega]

/-- A later reading step adds its row block's column sums. -/
theorem summed_later (c : Dev nD) (n : ℕ) (h : n % 9 ≤ 7) (h0 : n % 9 ≠ 0) (d : Vec F S1x2048 .f32) (hd : summed m c n d) :
    summed m c (n + 1) (k0_pay4 (blkN m c n) d) := by
  intro _
  rw [hd h0, show (n + 1) / 9 = n / 9 by omega, show (n + 1) % 9 - 1 = (n % 9 - 1) + 1 by omega]
  conv_rhs => unfold acc
  rw [show 9 * (n / 9) + ((n % 9 - 1) + 1) = n by omega]

/-- Before the writing step the copy is the head. -/
theorem copied_all (c : Dev nD) (n : ℕ) (h : n % 9 = 8) (d : Vec F S2048x2048 .f32) (hd : copied m c n d) : d = rowsF m c (n / 9) := by
  funext y
  rw [eq_ix2 y]
  exact hd (y 0) (y 1) (by rw [h]; exact (y 0).isLt)

/-- The result block of head `h`. -/
def resBlk (c : Dev nD) (h : ℕ) : Vec F S1x2048x2048 .f32 := outBlk (rowsF m c h) (flagsOf (acc m c h 7))

/-- The proof data: the arrays as the launch finds them, after a step the input block in place and the result block
of the step's head. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => resBlk m c (t.val / 9)
  Φ t := Inv m c t.val
  q _ := fullShare
  owed _ := 0

/-- The arrays of the proof data are those the launch finds. -/
theorem A_eq (c : Dev nD) (w : Fin cfg0.W) : (dats m 0 c).A w = V m c (Pipeline.arrRef spec0 w) := by
  dsimp only [dats]

/-- What the proof data keeps between positions is the invariant. -/
theorem Phi_eq (c : Dev nD) (t : Fin (cfg0.N + 1)) : (dats m 0 c).Φ t = Inv m c t.val := by
  dsimp only [dats]

/-- A step leaves its input block as it was. -/
theorem after_in (c : Dev nD) (t : Fin cfg0.N) : (dats m 0 c).after 0 t = iblk m c 0 t := by dsimp only [dats]

/-- A step's result block is that of its head. -/
theorem after_out (c : Dev nD) (t : Fin cfg0.N) : (dats m 0 c).after 1 t = resBlk m c (t.val / 9) := by dsimp only [dats]

/-- A step finds its row block staged. -/
theorem before_in (c : Dev nD) (t : Fin cfg0.N) (d) : (dats m 0 c).before 0 t d = blkN m c t.val :=
  (before0_0_of m (dats m 0 c) (A_eq m c 0) (after_in m c) t d).trans (blkN_val m c t).symm

/-- The input's staging buffer of a position. -/
abbrev inM (t : Fin cfg0.N) : Memref sig .tc .vmem S1x256x2048 .f32 := win0_0.stage (cfg0.slots t 0)
/-- The result's staging buffer of a position. -/
abbrev outM (t : Fin cfg0.N) : Memref sig .tc .vmem S1x2048x2048 .f32 := win0_1.stage (cfg0.slots t 1)
/-- The input's staging buffer is a whole buffer. -/
theorem inM_whole (t : Fin cfg0.N) : (inM t).IsWhole := hstage0_0 ((cfg0.slots t 0).cast nbuf0_0)
/-- The result's staging buffer is a whole buffer. -/
theorem outM_whole (t : Fin cfg0.N) : (outM t).IsWhole := hstage0_1 ((cfg0.slots t 1).cast nbuf0_1)

/-- What a step leaves in the input buffer is its row block. -/
theorem leaves_in (c : Dev nD) (t : Fin cfg0.N) :
    (dats m 0 c).leavesExact 0 t = owns (c : Thread nD τ) (inM t) fullShare (blkN m c t.val) := by
  unfold Dat.leavesExact
  rw [show cfg0.idle 0 (cfg0.grid.coords t) = false from rfl, blkN_val]
  rw [after_in]

/-- Before a head's last step the result buffer keeps what it held. -/
theorem leaves_out_idle (c : Dev nD) (t : Fin cfg0.N) (h : t.val % 9 ≠ 8) :
    (dats m 0 c).leavesExact 1 t = iprop(∃ d, owns (c : Thread nD τ) (outM t) fullShare ((dats m 0 c).before 1 t d)) :=
  Dat.leavesExact_idle _ 1 t
    (by
      have e : ¬ isLast (grid0.coords t) := fun e => h ((isLast_iff t).mp e)
      show (!(k0_cond4 (grid0.coords t) == 1#1)) = true
      rw [Bool.not_eq_true', beq_eq_false_iff_ne]
      exact e)
    (by
      rw [Bool.eq_false_iff]
      exact fun e => h ((flush0_1 t).mp e))

/-- A head's last step leaves the head's result block. -/
theorem leaves_out_last (c : Dev nD) (t : Fin cfg0.N) (h : t.val % 9 = 8) :
    (dats m 0 c).leavesExact 1 t = owns (c : Thread nD τ) (outM t) fullShare (resBlk m c (t.val / 9)) := by
  unfold Dat.leavesExact
  rw [show cfg0.idle 1 (cfg0.grid.coords t) = false from by
      show (!(k0_cond4 (grid0.coords t) == 1#1)) = false
      rw [Bool.not_eq_false', beq_iff_eq]
      exact (isLast_iff t).mpr h, after_out]

/-- What the body is called with at position `t`, -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t)

set_option maxHeartbeats 1000000 in
/-- The body at any position keeps the invariant. -/
theorem sound_body (c : Dev nD) (t : Fin cfg0.N) :
    bodyPre m c t ⊢ wp frame (wpE (defs₀ (F := F)) Variants.none c none) Set.univ (bodyOn (grid0.coords t) (inM t) (inM_whole t) (outM t) (outM_whole t)) (fun _ => bodyPost m c t) := by
  unfold bodyPre bodyPost
  simp only [before_in]
  rw [show (dats m 0 c).owesAt () t.succ = (dats m 0 c).owesAt () t.castSucc from rfl]
  rw [Phi_eq, Phi_eq, leaves_in, show (t.castSucc).val = t.val from rfl, show (t.succ).val = t.val + 1 from rfl]
  unfold Inv
  by_cases h8 : t.val % 9 = 8
  · rw [leaves_out_last m c t h8]
    iintro ⟨⟨⟨⟨%d4, H4, %h4⟩, ⟨%d5, H5, %h5⟩, H6⟩, Hg⟩, Ho, ⟨%d0, H0⟩, ⟨%d1, H1⟩⟩
    obtain rfl := copied_all m c t.val h8 d4 h4
    obtain rfl := h5 (by omega)
    iapply (run_last c (grid0.coords t) (inM t) (inM_whole t) (outM t) (outM_whole t) (fun h => absurd ((isRead_iff t).mp h) (by omega)) ((isLast_iff t).mpr h8) (blkN m c t.val) _ _ Set.univ _)
    isplitl [H0]; · iexact H0
    isplitl [H1]; · iexists _; iexact H1
    isplitl [H4]; · iexact H4
    isplitl [H5]; · iexact H5
    isplitl [H6]; · iexact H6
    iintro ⟨H0, H1, H4, H5, H6⟩
    isplitl [H4 H5 H6 Hg]
    · isplitl [H4 H5 H6]
      · isplitl [H4]
        · iexists _; isplitl; · iexact H4
          ipureintro; intro r l hr; exact absurd hr (by omega)
        isplitl [H5]
        · iexists _; isplitl; · iexact H5
          ipureintro; intro h; exact absurd h (by omega)
        iexact H6
      iexact Hg
    isplitl [Ho]; · iexact Ho
    isplitl [H0]; · iexact H0
    rw [h8]
    iexact H1
  · have hN : t.val % 9 ≤ 7 := by omega
    rw [leaves_out_idle m c t h8]
    by_cases h0 : t.val % 9 = 0
    · iintro ⟨⟨⟨⟨%d4, H4, %h4⟩, ⟨%d5, H5, %h5⟩, H6⟩, Hg⟩, Ho, ⟨%d0, H0⟩, ⟨%d1, H1⟩⟩
      iapply (run_first c (grid0.coords t) (inM t) (inM_whole t) (outM t) (outM_whole t) ((isRead_iff t).mpr hN) ((isFirst_iff t).mpr h0) (fun h => absurd ((isLater_iff t).mp h) (by omega)) (fun h => absurd ((isLast_iff t).mp h) h8) (blkN m c t.val) _ _ Set.univ _)
      isplitl [H0]; · iexact H0
      isplitl [H1]; · iexact H1
      isplitl [H4]; · iexact H4
      isplitl [H5]; · iexists _; iexact H5
      iintro ⟨H0, H1, H4, H5⟩
      isplitl [H4 H5 H6 Hg]
      · isplitl [H4 H5 H6]
        · isplitl [H4]
          · iexists _; isplitl; · iexact H4
            ipureintro; exact copied_step m c t hN d4 h4
          isplitl [H5]
          · iexists _; isplitl; · iexact H5
            ipureintro; exact summed_first m c t.val h0
          iexact H6
        iexact Hg
      isplitl [Ho]; · iexact Ho
      isplitl [H0]; · iexact H0
      iexists _; iexact H1
    · iintro ⟨⟨⟨⟨%d4, H4, %h4⟩, ⟨%d5, H5, %h5⟩, H6⟩, Hg⟩, Ho, ⟨%d0, H0⟩, ⟨%d1, H1⟩⟩
      iapply (run_later c (grid0.coords t) (inM t) (inM_whole t) (outM t) (outM_whole t) ((isRead_iff t).mpr hN) (fun h => h0 ((isFirst_iff t).mp h)) ((isLater_iff t).mpr (by omega)) (fun h => absurd ((isLast_iff t).mp h) h8) (blkN m c t.val) _ _ _ Set.univ _)
      isplitl [H0]; · iexact H0
      isplitl [H1]; · iexact H1
      isplitl [H4]; · iexact H4
      isplitl [H5]; · iexact H5
      iintro ⟨H0, H1, H4, H5⟩
      isplitl [H4 H5 H6 Hg]
      · isplitl [H4 H5 H6]
        · isplitl [H4]
          · iexists _; isplitl; · iexact H4
            ipureintro; exact copied_step m c t hN d4 h4
          isplitl [H5]
          · iexists _; isplitl; · iexact H5
            ipureintro; exact summed_later m c t.val hN h0 d5 h5
          iexact H6
        iexact Hg
      isplitl [Ho]; · iexact Ho
      isplitl [H0]; · iexact H0
      iexists _; iexact H1

/-- The body table's row at a position's buffers is the body on them. -/
theorem row_body (t : Fin cfg0.N) :
    defs₀ (F := F) .tc cfg0.body (cfg0.bodyArgs t (cfg0.slots t)) = bodyOn (grid0.coords t) (inM t) (inM_whole t) (outM t) (outM_whole t) := by
  unfold defs₀; rw [Defs.onTc_tc]

/-- The body meets its obligation at every position. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-- The launch's own memory is the three scratch buffers and the random register. -/
theorem region_eq (c : Dev nD) : (Pipeline.ΦA spec0 c : sProp 𝕄)
    = iprop(((∃ d, owns (c : Thread nD τ) copyM fullShare d) ∗ (∃ d, owns (c : Thread nD τ) sumsM fullShare d)
        ∗ (∃ d, owns (c : Thread nD τ) flagsM fullShare d)) ∗ (∃ r, prngReg c r)) := by
  unfold Pipeline.ΦA; rw [scopedRest0_eq]; simp only [copyM, sumsM, flagsM, owns_whole]; try rfl

/-- At the start nothing is asked of the scratch. -/
theorem inv_in (c : Dev nD) : Pipeline.ΦA spec0 c ⊢ (dats m 0 c).Φ 0 := by
  rw [Phi_eq, region_eq]
  unfold Inv
  iintro ⟨⟨⟨%d4, H4⟩, ⟨%d5, H5⟩, H6⟩, Hg⟩
  isplitl [H4 H5 H6]
  · isplitl [H4]
    · iexists _; isplitl; · iexact H4
      ipureintro; intro r l hr; exact absurd hr (Nat.not_lt_zero _)
    isplitl [H5]
    · iexists _; isplitl; · iexact H5
      ipureintro; intro h; exact absurd rfl h
    iexact H6
  iexact Hg

/-- At the end the scratch is given back. -/
theorem inv_out (c : Dev nD) : (dats m 0 c).Φ (Fin.last cfg0.N) ⊢ Pipeline.ΦA spec0 c := by
  rw [Phi_eq, region_eq]
  unfold Inv
  iintro ⟨⟨⟨%d4, H4, -⟩, ⟨%d5, H5, -⟩, H6⟩, Hg⟩
  isplitl [H4 H5 H6]
  · isplitl [H4]; · iexists _; iexact H4
    isplitl [H5]; · iexists _; iexact H5
    iexact H6
  iexact Hg

set_option backward.isDefEq.respectTransparency.types false in
/-- The launch: every run ends, with the arrays as the proof data says, the other buffers as the host lines leave them,
and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m) (Q' := _)

/-- The frame claim of the kernel at any element type: every run ends with the argument unchanged and every counter at
zero. -/
theorem frame_any : θ_run defs (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun _ h => ⟨fun c => ((h.1 c).2 main_arg0 (Pipeline.mem_restRefs_of main_arg0 (by decide) (by decide))).trans (W_main_arg0 m (dats m) c), h.2⟩) (run_main m ρ)

end Cert.Proof

end
-- ==== Proof.Frames.lean ====
/- The frame claims of the three programs: the kernel's own program read at bits, its idealization, the reference. -/
module

public import proofs.«01_k».proof.Defs
public import proofs.«01_k».proof.Proof.Body
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Tactic

@[expose] public section

set_option maxRecDepth 16384

noncomputable section

namespace Cert.Proof

open Idealize.ShloMosaic Idealize.ShloMosaic.TcCoe Idealize.SL.Sem

/-- What the frame claim says of the kernel's program, at any element type. -/
def KernelFrame (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r =>
      (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0)

/-- What the frame claim says of the idealized program, at any element type. -/
def IdealFrame (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0)

/-- The two programs have one text, so the two statements are one. -/
theorem frame_same (F : FTy → Type) [FloatOps F] : IdealFrame F = KernelFrame F := by sl_kernel_rfl

/-- The idealized program's frame, at any element type. -/
theorem ideal_frame (F : FTy → Type) [FloatOps F] : IdealFrame F := fun m g => frame_any m g

/-- The kernel's frame claim: every run ends, its argument unchanged and every counter at zero. -/
theorem frame_kernel : Cert.quiescent_Kernel (hKernel := Cert.Kernel.Gen.facts) := fun m g _ =>
  (Eq.mp (frame_same Bits) (ideal_frame Bits)) m g

/-- The idealized kernel's frame claim. -/
theorem frame_kernelIdeal : Cert.quiescent_KernelIdeal (hKernelIdeal := Cert.KernelIdeal.Gen.facts) := fun m g _ =>
  ideal_frame Ideal m g

/-- The reference's frame claim: it is a line of host operations that never write the argument, and it has no
counters. -/
theorem frame_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.Radix.lean ====
module

public import proofs.«01_k».proof.Proof.Runs
public import Idealize.ShloMosaic.Lib.Pointwise
public import Idealize.ShloMosaic.Lib.IndicatorCount
public import Idealize.ShloMosaic.Lib.WordCmp
public import Idealize.ShloMosaic.Lib.SortNet.Extract

@[expose] public section

set_option maxRecDepth 16384

noncomputable section

namespace Cert.Proof

open Cert.KernelIdeal Cert.KernelIdeal.Gen
open Idealize.ShloMosaic Idealize.ShloMosaic.TcCoe Idealize.ShloMosaic.Tactic

/-- The sixteen candidate digits of a round, cut down to the digit width `msk`. -/
def digits (msk : BitVec 32) : IVec S16x1 32 := andi (iota .tc S16x1 32 [0] iota_S16x1_d0_w32) (broadcast S16x1 msk)
/-- Which candidate digits keep at least `need` keys at or above the threshold they would give. -/
def okDigits (keys : IVec S1x2048 32) (need : IVec S1x1 32) (msk sh : BitVec 32) (pre : IVec S1x1 32) : IVec S16x1 1 :=
  cmpi .sge (shapeCast S16x1 (multiReductionI .add [1] S16 (extui 32 (cmpi .sge (broadcastTo S16x2048 keys broadcasts_S1x2048_S16x2048)
    (broadcastTo S16x2048 (ori (broadcastTo S16x1 pre broadcasts_S1x1_S16x1) (shli (digits msk) (broadcast S16x1 sh))) broadcasts_S16x1_S16x2048)) natLt_1_32)
    0#32 reduces_S16x2048_S16 rfl) shapeCasts_S16_S16x1) (broadcastTo S16x1 need broadcasts_S1x1_S16x1)
/-- One round of the threshold search: the greatest digit that keeps enough keys, put in at `sh`. -/
def rnd (keys : IVec S1x2048 32) (need : IVec S1x1 32) (msk sh : BitVec 32) (pre : IVec S1x1 32) : IVec S1x1 32 :=
  ori pre (shli (shapeCast S1x1 (multiReductionI .maxsi [0] S1 (select (okDigits keys need msk sh pre) (digits msk) (broadcast S16x1 0#32))
    2147483648#32 reduces_S16x1_S1 rfl) shapeCasts_S1_S1x1) (broadcast S1x1 sh))
/-- How many columns are kept. -/
def need1 : IVec S1x1 32 := broadcast S1x1 204#32
/-- The threshold of the keys: eight rounds, from the high digits down. -/
def thr (keys : IVec S1x2048 32) : IVec S1x1 32 :=
  rnd keys need1 7#32 0#32 (rnd keys need1 15#32 3#32 (rnd keys need1 15#32 7#32 (rnd keys need1 15#32 11#32 (rnd keys need1 15#32 15#32
   (rnd keys need1 15#32 19#32 (rnd keys need1 15#32 23#32 (rnd keys need1 15#32 27#32 (broadcast S1x1 0#32))))))))
/-- The columns whose key is above the threshold. -/
def above (keys : IVec S1x2048 32) (t : IVec S1x1 32) : IVec S1x2048 1 := cmpi .sgt keys (broadcastTo S1x2048 t broadcasts_S1x1_S1x2048)
/-- The columns whose key is the threshold. -/
def level (keys : IVec S1x2048 32) (t : IVec S1x1 32) : IVec S1x2048 1 := cmpi .eq keys (broadcastTo S1x2048 t broadcasts_S1x1_S1x2048)
/-- How many of the columns at the threshold are kept. -/
def need2 (keys : IVec S1x2048 32) (t : IVec S1x1 32) : IVec S1x1 32 :=
  subi (broadcast S1x1 204#32) (shapeCast S1x1 (multiReductionI .add [1] S1 (extui 32 (above keys t) natLt_1_32) 0#32 reduces_S1x2048_S1 rfl) shapeCasts_S1_S1x1)
/-- Among the columns at the threshold the earlier has the greater second key; any other column has −1. -/
def tieKeys (keys : IVec S1x2048 32) (t : IVec S1x1 32) : IVec S1x2048 32 :=
  select (level keys t) (subi (broadcast S1x2048 4095#32) (iota .tc S1x2048 32 [1] iota_S1x2048_d1_w32)) (broadcast S1x2048 4294967295#32)
/-- The threshold of the second keys: three rounds. -/
def cut (u : IVec S1x2048 32) (n : IVec S1x1 32) : IVec S1x1 32 :=
  rnd u n 15#32 0#32 (rnd u n 15#32 4#32 (rnd u n 15#32 8#32 (broadcast S1x1 0#32)))
/-- The kept columns: above the threshold, or at it and not past the cut. -/
def heavy (keys : IVec S1x2048 32) (t : IVec S1x1 32) : IVec S1x2048 1 :=
  ori (above keys t) (andi (level keys t) (cmpi .sge (tieKeys keys t)
    (broadcastTo S1x2048 (cut (tieKeys keys t) (need2 keys t)) broadcasts_S1x1_S1x2048)))
/-- The flags of a head, as two threshold searches. -/
def flagsR {F : FTy → Type} [FloatOps F] (v6 : Vec F S1x2048 .f32) : Vec F S1x2048 .i32 :=
  shapeCast S1x2048 (extui 32 (heavy (k0_pay8 v6) (thr (k0_pay8 v6))) natLt_1_32) shapeCasts_S1x2048_S1x2048
/-- The flags the kernel computes are the two searches. -/
theorem flagsOf_eq {F : FTy → Type} [FloatOps F] (v6 : Vec F S1x2048 .f32) : flagsOf v6 = flagsR v6 := by sl_kernel_rfl

/-! ## Words -/

/-- A digit put in below a prefix: the number is their sum. -/
theorem or_shift {p d s b : ℕ} (hd : d < 2 ^ b) (hp : 2 ^ (s + b) ∣ p) (hr : p + 2 ^ (s + b) ≤ 2 ^ 31) :
    IntOp.ori (BitVec.ofNat 32 p) (IntOp.shli .vector (BitVec.ofNat 32 d) (BitVec.ofNat 32 s)) = BitVec.ofNat 32 (p + d * 2 ^ s) := by
  have hs : s < 32 := by
    by_contra h
    have h1 : 2 ^ 32 ≤ 2 ^ (s + b) := Nat.pow_le_pow_right (by decide) (by omega)
    have h2 : (2 : ℕ) ^ 31 < 2 ^ 32 := by decide
    omega
  have hw : d * 2 ^ s < 2 ^ (s + b) := by
    rw [Nat.pow_add, Nat.mul_comm]; exact Nat.mul_lt_mul_of_pos_left hd (Nat.pow_pos (by decide))
  have h31 : (2 : ℕ) ^ 31 < 2 ^ 32 := by decide
  have hds : d < 2 ^ 32 := lt_of_le_of_lt (Nat.le_mul_of_pos_right d (Nat.pow_pos (n := s) (by decide : 0 < 2))) (by omega)
  obtain ⟨q, rfl⟩ := hp
  unfold IntOp.shli
  rw [if_pos (by rw [BitVec.toNat_ofNat, Nat.mod_eq_of_lt (lt_of_lt_of_le hs (by decide))]; exact hs)]
  apply BitVec.eq_of_toNat_eq
  show (BitVec.ofNat 32 _ ||| (BitVec.ofNat 32 d <<< BitVec.ofNat 32 s)).toNat = _
  rw [BitVec.toNat_or, BitVec.shiftLeft_eq', BitVec.toNat_shiftLeft, BitVec.toNat_ofNat, BitVec.toNat_ofNat, BitVec.toNat_ofNat, BitVec.toNat_ofNat,
    Nat.mod_eq_of_lt (show s < 2 ^ 32 by omega), Nat.mod_eq_of_lt hds, Nat.shiftLeft_eq, Nat.mod_eq_of_lt (show d * 2 ^ s < 2 ^ 32 by omega),
    Nat.mod_eq_of_lt (show 2 ^ (s + b) * q < 2 ^ 32 by omega), Nat.mod_eq_of_lt (show 2 ^ (s + b) * q + d * 2 ^ s < 2 ^ 32 by omega)]
  exact (Nat.two_pow_add_eq_or_of_lt hw q).symm

/-- A decided one-bit word is one exactly when the fact holds. -/
theorem ofBool_one (p : Prop) [Decidable p] : BitVec.ofBool (decide p) = 1#1 ↔ p := by
  by_cases h : p <;> simp [h]

/-! ## A round -/

/-- How many keys are at least `x`. -/
def reach (keys : IVec S1x2048 32) (x : ℕ) : ℕ := (Finset.univ.filter fun l : Fin 2048 => (x : ℤ) ≤ (keys (ix2 0 l)).toInt).card

/-- No more than 2048 columns reach a bound. -/
theorem reach_le (keys : IVec S1x2048 32) (x : ℕ) : reach keys x ≤ 2048 :=
  le_trans (Finset.card_le_univ _) (by simp)

/-- A candidate digit passes when enough keys are at least the number it gives. -/
theorem okDigits_at (keys : IVec S1x2048 32) (need : IVec S1x1 32) (msk sh : BitVec 32) (pre : IVec S1x1 32) {n p d s b : ℕ} (i : Fin 16)
    (hn : need (ix2 0 0) = BitVec.ofNat 32 n) (hn' : n ≤ 2048) (hs : sh = BitVec.ofNat 32 s) (hpre : pre (ix2 0 0) = BitVec.ofNat 32 p)
    (hdig : digits msk (ix2 i 0) = BitVec.ofNat 32 d) (hd : d < 2 ^ b) (hp : 2 ^ (s + b) ∣ p) (hr : p + 2 ^ (s + b) ≤ 2 ^ 31) :
    okDigits keys need msk sh pre (ix2 i 0) = BitVec.ofBool (decide (n ≤ reach keys (p + d * 2 ^ s))) := by
  have hw : d * 2 ^ s < 2 ^ (s + b) := by
    rw [Nat.pow_add, Nat.mul_comm]; exact Nat.mul_lt_mul_of_pos_left hd (Nat.pow_pos (by decide))
  have e : okDigits keys need msk sh pre (ix2 i 0) = IntOp.cmpi .sge (Finset.univ.fold IntOp.addi 0#32 fun x : Fin 2048 =>
      BitVec.setWidth 32 (IntOp.cmpi .sge (keys (ix2 0 x)) (IntOp.ori (pre (ix2 0 0)) (IntOp.shli .vector (digits msk (ix2 i 0)) sh)))) (need (ix2 0 0)) := by
    pointwise [okDigits]
  rw [e, hdig, hpre, hs, or_shift hd hp hr, IndicatorCount.fold_addi_setWidth_eq_card, hn]
  have hc : (Finset.univ.filter fun x : Fin 2048 => IntOp.cmpi .sge (keys (ix2 0 x)) (BitVec.ofNat 32 (p + d * 2 ^ s)) = 1#1).card
      = reach keys (p + d * 2 ^ s) := by
    unfold reach
    refine congrArg Finset.card (Finset.filter_congr fun x _ => ?_)
    rw [WordCmp.cmpi_sge_eq, WordCmp.toInt_ofNat_of_lt (by show _ < 2 ^ 31; omega), ofBool_one]
  rw [hc, WordCmp.cmpi_sge_ofNat (by show _ < 2 ^ 31; have := reach_le keys (p + d * 2 ^ s); omega) (by show _ < 2 ^ 31; omega)]

/-- A round narrows the search: from a number `p` that keeps enough keys, while `p + 2^(s+b)` does not, to a number
    that still does while its sum with `2^s` does not. -/
theorem rnd_spec (keys : IVec S1x2048 32) (need : IVec S1x1 32) (msk sh : BitVec 32) (pre : IVec S1x1 32) {n p s b : ℕ}
    (hn : need (ix2 0 0) = BitVec.ofNat 32 n) (hn' : n ≤ 2048) (hs : sh = BitVec.ofNat 32 s) (hpre : pre (ix2 0 0) = BitVec.ofNat 32 p)
    (hb : b ≤ 4) (hdig : ∀ i : Fin 16, digits msk (ix2 i 0) = BitVec.ofNat 32 (i.val % 2 ^ b))
    (hp : 2 ^ (s + b) ∣ p) (hr : p + 2 ^ (s + b) ≤ 2 ^ 31) (hin : n ≤ reach keys p) (hout : reach keys (p + 2 ^ (s + b)) < n) :
    ∃ q, rnd keys need msk sh pre (ix2 0 0) = BitVec.ofNat 32 q ∧ 2 ^ s ∣ q ∧ q + 2 ^ s ≤ 2 ^ 31 ∧ n ≤ reach keys q ∧ reach keys (q + 2 ^ s) < n := by
  have h16 : 2 ^ b ≤ 16 := le_trans (Nat.pow_le_pow_right (by decide) hb) (by decide)
  have hb0 : 0 < 2 ^ b := Nat.pow_pos (by decide)
  have e : rnd keys need msk sh pre (ix2 0 0) = IntOp.ori (pre (ix2 0 0)) (IntOp.shli .vector (Finset.univ.fold IntOp.maxsi 2147483648#32
      fun x : Fin 16 => Scalar.select (okDigits keys need msk sh pre (ix2 x 0)) (digits msk (ix2 x 0)) 0#32) sh) := by
    pointwise [rnd]
  have hg : (fun x : Fin 16 => Scalar.select (okDigits keys need msk sh pre (ix2 x 0)) (digits msk (ix2 x 0)) 0#32)
      = fun x : Fin 16 => BitVec.ofNat 32 (if n ≤ reach keys (p + x.val % 2 ^ b * 2 ^ s) then x.val % 2 ^ b else 0) := by
    funext x
    rw [okDigits_at keys need msk sh pre x hn hn' hs hpre (hdig x) (Nat.mod_lt _ hb0) hp hr, hdig x]
    unfold Scalar.select
    by_cases h : n ≤ reach keys (p + x.val % 2 ^ b * 2 ^ s) <;> simp [h]
  rw [hg] at e
  set g : Fin 16 → ℕ := fun x => if n ≤ reach keys (p + x.val % 2 ^ b * 2 ^ s) then x.val % 2 ^ b else 0 with hgd
  have hglt : ∀ x, g x < 2 ^ b := fun x => by
    rw [hgd]; dsimp only; split
    · exact Nat.mod_lt _ hb0
    · exact hb0
  have hint : ∀ x, (BitVec.ofNat 32 (g x)).toInt = (g x : ℤ) := fun x =>
    WordCmp.toInt_ofNat_of_lt (by have := hglt x; show _ < 2 ^ 31; omega)
  have hspec := SortNet.fold_maxsi_spec (fun x : Fin 16 => BitVec.ofNat 32 (g x)) Finset.univ 2147483648#32
  have key : ∃ d < 2 ^ b, (Finset.univ.fold IntOp.maxsi 2147483648#32 fun x : Fin 16 => BitVec.ofNat 32 (g x)) = BitVec.ofNat 32 d
      ∧ n ≤ reach keys (p + d * 2 ^ s) ∧ reach keys (p + (d + 1) * 2 ^ s) < n := by
    obtain ⟨h1, h2, h3⟩ := hspec
    rcases h3 with h3 | ⟨x, -, h3⟩
    · have h0 := h2 0 (Finset.mem_univ _)
      rw [h3, hint] at h0
      have : (2147483648#32 : BitVec 32).toInt < 0 := by decide
      omega
    · refine ⟨g x, hglt x, h3, ?_, ?_⟩
      · by_cases h : n ≤ reach keys (p + x.val % 2 ^ b * 2 ^ s)
        · have : g x = x.val % 2 ^ b := if_pos h
          rw [this]; exact h
        · have : g x = 0 := if_neg h
          rw [this, Nat.zero_mul, Nat.add_zero]; exact hin
      · have hgx := hglt x
        by_cases hl : g x + 1 = 2 ^ b
        · rw [hl, ← Nat.pow_add, Nat.add_comm b s]; exact hout
        · by_contra hc
          have hy := h2 ⟨g x + 1, by omega⟩ (Finset.mem_univ _)
          rw [h3, hint, hint] at hy
          have e1 : (g x + 1) % 2 ^ b = g x + 1 := Nat.mod_eq_of_lt (by omega)
          have : g ⟨g x + 1, by omega⟩ = g x + 1 := by
            show (if n ≤ reach keys (p + (g x + 1) % 2 ^ b * 2 ^ s) then (g x + 1) % 2 ^ b else 0) = g x + 1
            rw [e1, if_pos (not_lt.1 hc)]
          omega
  obtain ⟨d, hd, hf, hi, ho⟩ := key
  have hw : (d + 1) * 2 ^ s ≤ 2 ^ (s + b) := by
    rw [Nat.pow_add, Nat.mul_comm]; exact Nat.mul_le_mul_left _ hd
  refine ⟨p + d * 2 ^ s, ?_, ?_, ?_, hi, ?_⟩
  · rw [e, hf, hpre, hs, or_shift hd hp hr]
  · exact (Nat.dvd_add_right (dvd_trans (pow_dvd_pow 2 (by omega)) hp)).2 (Dvd.intro_left _ rfl)
  · rw [Nat.add_mul, Nat.one_mul] at hw; omega
  · rw [Nat.add_mul, Nat.one_mul, ← Nat.add_assoc] at ho; exact ho

/-- The sixteen digits at four bits. -/
theorem digits_four (i : Fin 16) : digits 15#32 (ix2 i 0) = BitVec.ofNat 32 (i.val % 2 ^ 4) := by
  have e : digits 15#32 (ix2 i 0) = IntOp.andi (BitVec.ofNat 32 i.val) 15#32 := by pointwise [digits]
  rw [e]; revert i; decide

/-- The sixteen digits at three bits. -/
theorem digits_three (i : Fin 16) : digits 7#32 (ix2 i 0) = BitVec.ofNat 32 (i.val % 2 ^ 3) := by
  have e : digits 7#32 (ix2 i 0) = IntOp.andi (BitVec.ofNat 32 i.val) 7#32 := by pointwise [digits]
  rw [e]; revert i; decide

/-! ## The two searches -/

/-- The first search finds the greatest number that at least 204 keys reach, when no key is negative. -/
theorem thr_spec (keys : IVec S1x2048 32) (h0 : ∀ l, 0 ≤ (keys (ix2 0 l)).toInt) :
    ∃ t, thr keys (ix2 0 0) = BitVec.ofNat 32 t ∧ t + 1 ≤ 2 ^ 31 ∧ 204 ≤ reach keys t ∧ reach keys (t + 1) < 204 := by
  have hn : need1 (ix2 0 0) = BitVec.ofNat 32 204 := rfl
  have hz : reach keys 0 = 2048 := by
    unfold reach
    rw [Finset.filter_true_of_mem fun l _ => by simpa using h0 l]; simp
  have hi : reach keys (0 + 2 ^ (27 + 4)) < 204 := by
    have : reach keys (0 + 2 ^ (27 + 4)) = 0 := by
      unfold reach
      rw [Finset.card_eq_zero, Finset.filter_eq_empty_iff]
      intro l _ h
      have := BitVec.toInt_lt (x := keys (ix2 0 l))
      norm_num at this h
      omega
    omega
  obtain ⟨p1, e1, d1, r1, i1, o1⟩ := rnd_spec keys need1 15#32 27#32 (broadcast S1x1 0#32) (n := 204) (p := 0) (s := 27) (b := 4) hn (by decide) rfl rfl (by decide)
    digits_four (by decide) (by decide) (by omega) hi
  obtain ⟨p2, e2, d2, r2, i2, o2⟩ := rnd_spec keys need1 15#32 23#32 _ (s := 23) (b := 4) hn (by decide) rfl e1 (by decide) digits_four d1 r1 i1 o1
  obtain ⟨p3, e3, d3, r3, i3, o3⟩ := rnd_spec keys need1 15#32 19#32 _ (s := 19) (b := 4) hn (by decide) rfl e2 (by decide) digits_four d2 r2 i2 o2
  obtain ⟨p4, e4, d4, r4, i4, o4⟩ := rnd_spec keys need1 15#32 15#32 _ (s := 15) (b := 4) hn (by decide) rfl e3 (by decide) digits_four d3 r3 i3 o3
  obtain ⟨p5, e5, d5, r5, i5, o5⟩ := rnd_spec keys need1 15#32 11#32 _ (s := 11) (b := 4) hn (by decide) rfl e4 (by decide) digits_four d4 r4 i4 o4
  obtain ⟨p6, e6, d6, r6, i6, o6⟩ := rnd_spec keys need1 15#32 7#32 _ (s := 7) (b := 4) hn (by decide) rfl e5 (by decide) digits_four d5 r5 i5 o5
  obtain ⟨p7, e7, d7, r7, i7, o7⟩ := rnd_spec keys need1 15#32 3#32 _ (s := 3) (b := 4) hn (by decide) rfl e6 (by decide) digits_four d6 r6 i6 o6
  obtain ⟨p8, e8, d8, r8, i8, o8⟩ := rnd_spec keys need1 7#32 0#32 _ (s := 0) (b := 3) hn (by decide) rfl e7 (by decide) digits_three d7 r7 i7 o7
  exact ⟨p8, e8, r8, i8, o8⟩

/-- The second search finds the greatest number that at least `n` keys reach, when `n` of them are not negative and fewer than `n` reach 4096. -/
theorem cut_spec (u : IVec S1x2048 32) (need : IVec S1x1 32) {n : ℕ} (hn : need (ix2 0 0) = BitVec.ofNat 32 n) (hn' : n ≤ 2048)
    (hz : n ≤ reach u 0) (hi : reach u 4096 < n) :
    ∃ t, cut u need (ix2 0 0) = BitVec.ofNat 32 t ∧ t + 1 ≤ 2 ^ 31 ∧ n ≤ reach u t ∧ reach u (t + 1) < n := by
  obtain ⟨p1, e1, d1, r1, i1, o1⟩ := rnd_spec u need 15#32 8#32 (broadcast S1x1 0#32) (p := 0) (s := 8) (b := 4) hn hn' rfl rfl (by decide)
    digits_four (by decide) (by decide) hz hi
  obtain ⟨p2, e2, d2, r2, i2, o2⟩ := rnd_spec u need 15#32 4#32 _ (s := 4) (b := 4) hn hn' rfl e1 (by decide) digits_four d1 r1 i1 o1
  obtain ⟨p3, e3, d3, r3, i3, o3⟩ := rnd_spec u need 15#32 0#32 _ (s := 0) (b := 4) hn hn' rfl e2 (by decide) digits_four d2 r2 i2 o2
  exact ⟨p3, e3, r3, i3, o3⟩

end Cert.Proof

end
-- ==== Proof.Rank.lean ====
module

public import proofs.«01_k».proof.Proof.Radix

@[expose] public section

set_option maxRecDepth 16384

noncomputable section

namespace Cert.Proof

open Cert.KernelIdeal Cert.KernelIdeal.Gen
open Idealize.ShloMosaic Idealize.ShloMosaic.TcCoe Idealize.ShloMosaic.Tactic

/-- The rank of column `l`: how many columns come before it, those with a greater value and, at an equal value, the earlier ones. -/
def rankOf {α : Type} [LinearOrder α] (v : Fin 2048 → α) (l : Fin 2048) : ℕ :=
  (Finset.univ.filter fun l' : Fin 2048 => v l < v l' ∨ (v l' = v l ∧ l' < l)).card

/-- Ranks are the same under keys ordered the same. -/
theorem rankOf_congr {α β : Type} [LinearOrder α] [LinearOrder β] (v : Fin 2048 → α) (k : Fin 2048 → β)
    (h : ∀ i j, k i < k j ↔ v i < v j) (l : Fin 2048) : rankOf k l = rankOf v l := by
  unfold rankOf
  refine congrArg Finset.card (Finset.filter_congr fun l' _ => ?_)
  have e : k l' = k l ↔ v l' = v l := by
    rw [le_antisymm_iff, le_antisymm_iff, ← not_lt, ← not_lt, ← not_lt, ← not_lt, h, h]
  rw [h, e]

section Search

variable (keys : IVec S1x2048 32) (k : Fin 2048 → ℕ) (hk : ∀ l, keys (ix2 0 l) = BitVec.ofNat 32 (k l)) (hlt : ∀ l, k l < 2 ^ 31)
include hk hlt

/-- A key word read as a signed number. -/
theorem key_int (l : Fin 2048) : (keys (ix2 0 l)).toInt = (k l : ℤ) := by
  rw [hk]; exact WordCmp.toInt_ofNat_of_lt (hlt l)

/-- How many keys are at least `x`, over the keys as numbers. -/
theorem reach_eq (x : ℕ) : reach keys x = (Finset.univ.filter fun l => x ≤ k l).card := by
  unfold reach
  refine congrArg Finset.card (Finset.filter_congr fun l _ => ?_)
  rw [key_int keys k hk hlt]; exact Int.ofNat_le

/-- The kept columns are those of rank below 204. -/
theorem heavy_iff (l : Fin 2048) : heavy keys (thr keys) (ix2 0 l) = 1#1 ↔ rankOf k l < 204 := by
  obtain ⟨t, et, rt, it, ot⟩ := thr_spec keys fun l => by rw [key_int keys k hk hlt]; exact Int.natCast_nonneg _
  have hab : ∀ l, above keys (thr keys) (ix2 0 l) = BitVec.ofBool (decide (t < k l)) := fun l => by
    have e : above keys (thr keys) (ix2 0 l) = IntOp.cmpi .sgt (keys (ix2 0 l)) (thr keys (ix2 0 0)) := by pointwise [above]
    rw [e, et, hk, WordCmp.cmpi_sgt_ofNat (by exact hlt l) (by show _ < 2 ^ 31; omega)]
  have hle : ∀ l, level keys (thr keys) (ix2 0 l) = BitVec.ofBool (decide (k l = t)) := fun l => by
    have e : level keys (thr keys) (ix2 0 l) = IntOp.cmpi .eq (keys (ix2 0 l)) (thr keys (ix2 0 0)) := by pointwise [level]
    rw [e, et, hk, WordCmp.cmpi_eq_ofNat (by have := hlt l; omega) (by omega)]
  -- how many of the columns at the threshold are kept
  have hn2 : need2 keys (thr keys) (ix2 0 0) = BitVec.ofNat 32 (204 - reach keys (t + 1)) := by
    have e : need2 keys (thr keys) (ix2 0 0) = IntOp.subi 204#32 (Finset.univ.fold IntOp.addi 0#32 fun x : Fin 2048 =>
        BitVec.setWidth 32 (above keys (thr keys) (ix2 0 x))) := by
      pointwise [need2, above]
    rw [e, IndicatorCount.fold_addi_setWidth_eq_card]
    have hc : (Finset.univ.filter fun x : Fin 2048 => above keys (thr keys) (ix2 0 x) = 1#1).card = reach keys (t + 1) := by
      rw [reach_eq keys k hk hlt]
      refine congrArg Finset.card (Finset.filter_congr fun x _ => ?_)
      rw [hab, ofBool_one]; exact Iff.rfl
    rw [hc]
    show 204#32 - BitVec.ofNat 32 _ = _
    apply BitVec.eq_of_toNat_eq
    rw [BitVec.toNat_sub, BitVec.toNat_ofNat, BitVec.toNat_ofNat, BitVec.toNat_ofNat]
    omega
  -- the second keys
  have hu : ∀ l, tieKeys keys (thr keys) (ix2 0 l) = if k l = t then BitVec.ofNat 32 (4095 - l.val) else 4294967295#32 := fun l => by
    have e : tieKeys keys (thr keys) (ix2 0 l) = Scalar.select (level keys (thr keys) (ix2 0 l)) (IntOp.subi 4095#32 (BitVec.ofNat 32 l.val)) 4294967295#32 := by
      pointwise [tieKeys, level]
    rw [e, hle]
    have hs : IntOp.subi 4095#32 (BitVec.ofNat 32 l.val) = BitVec.ofNat 32 (4095 - l.val) := by
      show 4095#32 - BitVec.ofNat 32 _ = _
      apply BitVec.eq_of_toNat_eq
      rw [BitVec.toNat_sub, BitVec.toNat_ofNat, BitVec.toNat_ofNat, BitVec.toNat_ofNat]
      have := l.isLt
      omega
    rw [hs]; unfold Scalar.select
    by_cases h : k l = t <;> simp [h]
  have hui : ∀ (x : ℕ) l, (x : ℤ) ≤ (tieKeys keys (thr keys) (ix2 0 l)).toInt ↔ k l = t ∧ x ≤ 4095 - l.val := fun x l => by
    rw [hu]
    by_cases h : k l = t
    · rw [if_pos h, WordCmp.toInt_ofNat_of_lt (by show _ < 2 ^ 31; omega)]
      simp only [h, true_and]; exact Int.ofNat_le
    · rw [if_neg h]
      have : (4294967295#32 : BitVec 32).toInt = -1 := by decide
      rw [this]
      exact ⟨fun h' => absurd h' (by omega), fun h' => absurd h'.1 h⟩
  have hur : ∀ x, reach (tieKeys keys (thr keys)) x = (Finset.univ.filter fun l => k l = t ∧ x ≤ 4095 - l.val).card := fun x => by
    unfold reach
    exact congrArg Finset.card (Finset.filter_congr fun l _ => hui x l)
  have hsplit : reach keys t ≤ reach keys (t + 1) + reach (tieKeys keys (thr keys)) 0 := by
    rw [reach_eq keys k hk hlt, reach_eq keys k hk hlt, hur]
    refine le_trans (Finset.card_le_card fun l hl => ?_) (Finset.card_union_le _ _)
    simp only [Finset.mem_filter, Finset.mem_univ, true_and, Finset.mem_union] at hl ⊢
    omega
  obtain ⟨c, ec, rc, ic, oc⟩ := cut_spec (tieKeys keys (thr keys)) (need2 keys (thr keys)) hn2 (by omega) (by omega) (by
    have : reach (tieKeys keys (thr keys)) 4096 = 0 := by
      rw [hur, Finset.card_eq_zero, Finset.filter_eq_empty_iff]
      intro l _ h
      omega
    omega)
  have hhv : heavy keys (thr keys) (ix2 0 l) = 1#1 ↔ t < k l ∨ (k l = t ∧ c ≤ 4095 - l.val) := by
    have e : heavy keys (thr keys) (ix2 0 l) = IntOp.ori (above keys (thr keys) (ix2 0 l)) (IntOp.andi (level keys (thr keys) (ix2 0 l))
        (IntOp.cmpi .sge (tieKeys keys (thr keys) (ix2 0 l)) (cut (tieKeys keys (thr keys)) (need2 keys (thr keys)) (ix2 0 0)))) := by
      pointwise [heavy, above, level, tieKeys]
    rw [e, hab, hle, ec, WordCmp.cmpi_sge_eq, WordCmp.toInt_ofNat_of_lt (by show _ < 2 ^ 31; omega)]
    have hcu := hui c l
    by_cases h1 : t < k l
    · by_cases h2 : k l = t
      · omega
      · by_cases h3 : (c : ℤ) ≤ (tieKeys keys (thr keys) (ix2 0 l)).toInt <;> simp [h1, h2, h3, IntOp.ori, IntOp.andi]
    · by_cases h2 : k l = t
      · by_cases h3 : (c : ℤ) ≤ (tieKeys keys (thr keys) (ix2 0 l)).toInt
        · have := (hcu.1 h3).2
          simp only [h1, h3, decide_true, decide_false, BitVec.ofBool_true, BitVec.ofBool_false, IntOp.ori, IntOp.andi]
          simp [h2, this]
        · have : ¬ c ≤ 4095 - l.val := fun h => h3 (hcu.2 ⟨h2, h⟩)
          simp only [h1, h3, decide_true, decide_false, BitVec.ofBool_true, BitVec.ofBool_false, IntOp.ori, IntOp.andi]
          simp [this]
      · simp [h1, h2, IntOp.ori, IntOp.andi]
  rw [hhv]
  rcases lt_trichotomy (k l) t with h | h | h
  · have : reach keys t ≤ rankOf k l := by
      rw [reach_eq keys k hk hlt]; unfold rankOf
      refine Finset.card_le_card fun l' hl' => ?_
      simp only [Finset.mem_filter, Finset.mem_univ, true_and] at hl' ⊢
      omega
    exact ⟨fun h' => by omega, fun h' => by omega⟩
  · have hr : rankOf k l = reach keys (t + 1) + (Finset.univ.filter fun l' : Fin 2048 => k l' = t ∧ l' < l).card := by
      rw [reach_eq keys k hk hlt]; unfold rankOf
      rw [← Finset.card_union_of_disjoint]
      · refine congrArg Finset.card (Finset.ext fun l' => ?_)
        simp only [Finset.mem_filter, Finset.mem_univ, true_and, Finset.mem_union, h]
        exact Iff.rfl
      · rw [Finset.disjoint_left]
        intro l' h1 h2
        simp only [Finset.mem_filter, Finset.mem_univ, true_and] at h1 h2
        omega
    rw [hr]
    by_cases hc : c ≤ 4095 - l.val
    · have : (Finset.univ.filter fun l' : Fin 2048 => k l' = t ∧ l' < l).card ≤ reach (tieKeys keys (thr keys)) (c + 1) := by
        rw [hur]
        refine Finset.card_le_card fun l' hl' => ?_
        simp only [Finset.mem_filter, Finset.mem_univ, true_and, Fin.lt_def] at hl' ⊢
        have := l.isLt
        omega
      exact ⟨fun _ => by omega, fun _ => Or.inr ⟨h, hc⟩⟩
    · have : reach (tieKeys keys (thr keys)) c ≤ (Finset.univ.filter fun l' : Fin 2048 => k l' = t ∧ l' < l).card := by
        rw [hur]
        refine Finset.card_le_card fun l' hl' => ?_
        simp only [Finset.mem_filter, Finset.mem_univ, true_and, Fin.lt_def] at hl' ⊢
        omega
      exact ⟨fun h' => by omega, fun h' => by omega⟩
  · have : rankOf k l ≤ reach keys (t + 1) := by
      rw [reach_eq keys k hk hlt]; unfold rankOf
      refine Finset.card_le_card fun l' hl' => ?_
      simp only [Finset.mem_filter, Finset.mem_univ, true_and] at hl' ⊢
      omega
    exact ⟨fun _ => by omega, fun _ => Or.inl h⟩

end Search

/-- The keys are ordered as the values. -/
theorem count_lt_iff {α : Type} [LinearOrder α] (v : Fin 2048 → α) (i j : Fin 2048) :
    (Finset.univ.filter fun x => v x < v i).card < (Finset.univ.filter fun x => v x < v j).card ↔ v i < v j := by
  constructor
  · intro h
    by_contra hc
    refine absurd (Finset.card_le_card (s := Finset.univ.filter fun x => v x < v j) (t := Finset.univ.filter fun x => v x < v i) fun x hx => ?_) (not_le.2 h)
    simp only [Finset.mem_filter, Finset.mem_univ, true_and] at hx ⊢
    exact lt_of_lt_of_le hx (not_lt.1 hc)
  · intro h
    refine Finset.card_lt_card ((Finset.ssubset_iff_of_subset fun x hx => ?_).2 ⟨i, ?_, ?_⟩)
    · simp only [Finset.mem_filter, Finset.mem_univ, true_and] at hx ⊢
      exact hx.trans h
    · simp only [Finset.mem_filter, Finset.mem_univ, true_and]; exact h
    · simp only [Finset.mem_filter, Finset.mem_univ, true_and]; exact lt_irrefl _

/-- The kernel flags exactly the columns of rank below 204. -/
theorem flags_iff (v6 : Vec Ideal S1x2048 .f32) (l : Fin 2048) :
    flagsOf v6 (ix2 0 l) ≠ 0#32 ↔ rankOf (α := EReal) (fun x => v6 (ix2 0 x)) l < 204 := by
  have hk : ∀ l, k0_pay8 v6 (ix2 0 l) = BitVec.ofNat 32 (Finset.univ.filter fun x : Fin 2048 => ((v6 (ix2 0 x) : EReal) < v6 (ix2 0 l))).card := fun l => by
    have e : k0_pay8 v6 (ix2 0 l) = Finset.univ.fold IntOp.addi 0#32 fun x : Fin 2048 =>
        BitVec.setWidth 32 (FloatOps.cmpf (F := Ideal) (φ := .f32) .olt (v6 (ix2 0 x)) (v6 (ix2 0 l))) := by pointwise [k0_pay8]
    rw [e, IndicatorCount.fold_addi_setWidth_eq_card]
    refine congrArg (fun n => BitVec.ofNat 32 (Finset.card n)) (Finset.filter_congr fun x _ => ?_)
    exact ofBool_one _
  rw [flagsOf_eq]
  have e : flagsR v6 (ix2 0 l) = BitVec.setWidth 32 (heavy (k0_pay8 v6) (thr (k0_pay8 v6)) (ix2 0 l)) := by
    pointwise [flagsR]
  rw [e, ← rankOf_congr (fun x => (v6 (ix2 0 x) : EReal)) _ (count_lt_iff _) l,
    ← heavy_iff (k0_pay8 v6) _ hk (fun l => lt_of_le_of_lt (Finset.card_le_univ _) (by simp))]
  generalize heavy (k0_pay8 v6) (thr (k0_pay8 v6)) (ix2 0 l) = w
  revert w; decide

end Cert.Proof

end
-- ==== Proof.SortRank.lean ====
module

public import proofs.«01_k».proof.Proof.Rank
public import Idealize.ShloMosaic.Lib.SortFacts
public import Idealize.ShloMosaic.Lib.SortPrefix

@[expose] public section

noncomputable section

namespace Cert.Proof

open Idealize.ShloMosaic

/-- A stable sort meets its relation only with the element standing later in the list as the second argument: two relations that agree there sort alike. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- The same of the sort's positions. -/
theorem sortedFrom_later {n : ℕ} (R R' : Fin n → Fin n → Bool) (h : ∀ a b, a < b → R b a = R' b a) : sortedFrom R = sortedFrom R' := by
  have e : sortPositions n R = sortPositions n R' :=
    stableSort_later _ _ _ ((List.sortedLT_finRange n).pairwise.imp fun {a b} hab => h a b hab)
  funext i
  unfold sortedFrom
  rw [List.get_of_eq e]
  rfl

variable {α : Type} [LinearOrder α]

/-- Greater value first, and the earlier position first at equal values. -/
def firstOf (v : Fin 2048 → α) (a b : Fin 2048) : Bool := decide (v b < v a ∨ (v a = v b ∧ a < b))

/-- The stable sort by value is the sort by value and then position. -/
theorem sorted_by_first (v : Fin 2048 → α) : sortedFrom (fun a b => decide (v b < v a)) = sortedFrom (firstOf v) :=
  sortedFrom_later _ _ fun a b hab => by
    unfold firstOf
    exact decide_eq_decide.2 ⟨Or.inl, fun h => h.elim id fun h' => absurd h'.2 (not_lt.2 hab.le)⟩

/-- That order is a strict total one. -/
theorem firstOf_total (v : Fin 2048 → α) : StrictTotalBefore (firstOf v) where
  irrefl a := by unfold firstOf; simp
  trans a b c hab hbc := by
    unfold firstOf at *
    simp only [decide_eq_true_eq] at *
    rcases hab with h | ⟨h, h'⟩ <;> rcases hbc with g | ⟨g, g'⟩
    · exact Or.inl (g.trans h)
    · exact Or.inl (g ▸ h)
    · exact Or.inl (h ▸ g)
    · exact Or.inr ⟨h.trans g, h'.trans g'⟩
  total a b hne := by
    unfold firstOf
    simp only [decide_eq_true_eq]
    rcases lt_trichotomy (v a) (v b) with h | h | h
    · exact Or.inr (Or.inl h)
    · rcases lt_or_gt_of_ne hne with g | g
      · exact Or.inl (Or.inr ⟨h, g⟩)
      · exact Or.inr (Or.inr ⟨h.symm, g⟩)
    · exact Or.inl (Or.inl h)

/-- The column sorted to place `i` has rank `i`. -/
theorem rank_sorted (v : Fin 2048 → α) (i : Fin 2048) : rankOf v (sortedFrom (fun a b => decide (v b < v a)) i) = i.val := by
  rw [sorted_by_first]
  have hB := firstOf_total v
  have hinj := sortedFrom_injective (firstOf v)
  have hno : ∀ i j, i < j → firstOf v (sortedFrom (firstOf v) j) (sortedFrom (firstOf v) i) = false := fun i j hij =>
    sortedFrom_noInversion (firstOf v) (firstOf v) (fun a b => hB.asymm a b) (fun _ _ h => h) hB.negTrans i j hij
  have hyes : ∀ i j, i < j → firstOf v (sortedFrom (firstOf v) i) (sortedFrom (firstOf v) j) = true := fun i j hij => by
    rcases hB.total _ _ (hinj.ne hij.ne) with h | h
    · exact h
    · rw [hno i j hij] at h; exact absurd h (by decide)
  have e : (Finset.univ.filter fun l' : Fin 2048 => v (sortedFrom (firstOf v) i) < v l' ∨ (v l' = v (sortedFrom (firstOf v) i) ∧ l' < sortedFrom (firstOf v) i))
      = (Finset.univ.filter fun j : Fin 2048 => j < i).image (sortedFrom (firstOf v)) := by
    ext l'
    obtain ⟨j, rfl⟩ := sortedFrom_surjective (firstOf v) l'
    rw [Finset.mem_filter, Finset.mem_image]
    constructor
    · rintro ⟨-, h⟩
      refine ⟨j, Finset.mem_filter.2 ⟨Finset.mem_univ _, ?_⟩, rfl⟩
      have h' : firstOf v (sortedFrom (firstOf v) j) (sortedFrom (firstOf v) i) = true := decide_eq_true h
      rcases lt_trichotomy j i with g | g | g
      · exact g
      · rw [g, hB.irrefl] at h'; exact absurd h' (by decide)
      · rw [hno i j g] at h'; exact absurd h' (by decide)
    · rintro ⟨j', hj', hjj⟩
      obtain rfl := hinj hjj
      exact ⟨Finset.mem_univ _, of_decide_eq_true (hyes j' i (Finset.mem_filter.1 hj').2)⟩
  unfold rankOf
  rw [e, Finset.card_image_of_injective _ hinj]
  have : (Finset.univ.filter fun j : Fin 2048 => j < i) = Finset.Iio i := by ext; simp
  rw [this, Fin.card_Iio]

/-- A column is among the first 204 of the sort exactly when its rank is below 204. -/
theorem sorted_hit (v : Fin 2048 → α) (l : Fin 2048) :
    (∃ j : Fin 204, sortedFrom (fun a b => decide (v b < v a)) ⟨j.val, by omega⟩ = l) ↔ rankOf v l < 204 := by
  constructor
  · rintro ⟨j, rfl⟩
    rw [rank_sorted]; exact j.isLt
  · intro h
    obtain ⟨i, rfl⟩ := sortedFrom_surjective (fun a b => decide (v b < v a)) l
    rw [rank_sorted] at h
    exact ⟨⟨i.val, h⟩, rfl⟩

end Cert.Proof

end
-- ==== Proof.Ref.lean ====
module

public import proofs.«01_k».proof.Proof.Gen.ReferenceIdeal.Run
public import proofs.«01_k».proof.Proof.SortRank
public import Idealize.ShloMosaic.Lib.Routing.OpsSet
public import Idealize.ShloMosaic.Lib.Claim

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic

/-- The row maxima, on every column. -/
def maxR (X : FVec Ideal S1x16x2048x2048 .f32) : FVec Ideal S1x16x2048x2048 .f32 :=
  (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) (Host.reduce FloatOps.maximumf X (constant S_ .f32 0xFF800000#32) reducesTo_S1x16x2048x2048_S1x16x2048_d3 h_S_))))

/-- The exponentials of the entries less their row maximum. -/
def expR (X : FVec Ideal S1x16x2048x2048 .f32) : FVec Ideal S1x16x2048x2048 .f32 :=
  (Host.exp (subf X (maxR X)))

/-- The column sums of the row softmax. -/
def sumsR (X : FVec Ideal S1x16x2048x2048 .f32) : FVec Ideal S1x16x2048 .f32 :=
  (Host.reduceAdd (Host.divf (expR X) (broadcastInDim S1x16x2048x2048 ![0, 1, 2, 3] bcast_S1x16x2048x1_S1x16x2048x2048_0_1_2_3 (broadcastInDim S1x16x2048x1 ![0, 1, 2] bcast_S1x16x2048_S1x16x2048x1_0_1_2 (Host.reduceAdd (expR X) (constant S_ .f32 0x00000000#32) reducesTo_S1x16x2048x2048_S1x16x2048_d3 h_S_)))) (constant S_ .f32 0x00000000#32) reducesTo_S1x16x2048x2048_S1x16x2048_d2 h_S_)

/-- The positions of the 204 greatest sums of each head, in order. -/
def topR (S : FVec Ideal S1x16x2048 .f32) : IVec S1x16x204 32 :=
  ((Host.topK S1x16x204 2 (FloatOps.cmpfTotal .gt) S sliceFits_S1x16x2048_S1x16x204).2)

/-- The batch coordinate of a marked column. -/
def batchR : IVec S1x1x1 32 :=
  (select (cmpi .slt (broadcastInDim S1x1x1 ![0] bcast_S1_S1x1x1_0 (iotaInDim S1 32 0)) (broadcastInDim S1x1x1 ![] bcast_S_S1x1x1 (constantI S_ 32 0#32))) (addi (broadcastInDim S1x1x1 ![0] bcast_S1_S1x1x1_0 (iotaInDim S1 32 0)) (broadcastInDim S1x1x1 ![] bcast_S_S1x1x1 (constantI S_ 32 1#32))) (broadcastInDim S1x1x1 ![0] bcast_S1_S1x1x1_0 (iotaInDim S1 32 0)))

/-- The head coordinate of a marked column. -/
def headR : IVec S1x16x1 32 :=
  (select (cmpi .slt (broadcastInDim S1x16x1 ![1] bcast_S16_S1x16x1_1 (iotaInDim S16 32 0)) (broadcastInDim S1x16x1 ![] bcast_S_S1x16x1 (constantI S_ 32 0#32))) (addi (broadcastInDim S1x16x1 ![1] bcast_S16_S1x16x1_1 (iotaInDim S16 32 0)) (broadcastInDim S1x16x1 ![] bcast_S_S1x16x1 (constantI S_ 32 16#32))) (broadcastInDim S1x16x1 ![1] bcast_S16_S1x16x1_1 (iotaInDim S16 32 0)))

/-- The column coordinate of a marked column. -/
def colR (S : FVec Ideal S1x16x2048 .f32) : IVec S1x16x204 32 :=
  (select (cmpi .slt (topR S) (broadcastInDim S1x16x204 ![] bcast_S_S1x16x204 (constantI S_ 32 0#32))) (addi (topR S) (broadcastInDim S1x16x204 ![] bcast_S_S1x16x204 (constantI S_ 32 2048#32))) (topR S))

/-- The coordinates of the marked columns. -/
def posR (S : FVec Ideal S1x16x2048 .f32) : IVec S1x16x204x3 32 :=
  ((concatenate S1x16x204x3 3 [⟨S1x16x204x1, ((broadcastInDim S1x16x204x1 ![0, 1, 2] bcast_S1x16x204_S1x16x204x1_0_1_2 (broadcastInDim S1x16x204 ![0, 1, 2] bcast_S1x1x1_S1x16x204_0_1_2 batchR)) : IVec S1x16x204x1 32)⟩, ⟨S1x16x204x1, ((broadcastInDim S1x16x204x1 ![0, 1, 2] bcast_S1x16x204_S1x16x204x1_0_1_2 (broadcastInDim S1x16x204 ![0, 1, 2] bcast_S1x16x1_S1x16x204_0_1_2 headR)) : IVec S1x16x204x1 32)⟩, ⟨S1x16x204x1, ((broadcastInDim S1x16x204x1 ![0, 1, 2] bcast_S1x16x204_S1x16x204x1_0_1_2 (colR S)) : IVec S1x16x204x1 32)⟩] concatenates_S1x16x204x1_S1x16x204x1_S1x16x204x1_S1x16x204x3_d3 : IVec S1x16x204x3 32))

/-- The marked columns of each head. -/
def hitsR (S : FVec Ideal S1x16x2048 .f32) : IVec S1x16x2048 1 :=
  (Host.scatter scatter_S1x16x2048_S1x16x204x3_S1x16x204_n_012_012_3 (fun _ b => b) (broadcastInDim S1x16x2048 ![] bcast_S_S1x16x2048 (constantI S_ 1 0#1)) (posR S) (broadcastInDim S1x16x204 ![] bcast_S_S1x16x204 (constantI S_ 1 1#1)))

/-- The band around the diagonal. -/
def bandR : IVec S1x16x2048x2048 1 :=
  (broadcastInDim S1x16x2048x2048 ![0, 1, 2, 3] bcast_S1x1x2048x2048_S1x16x2048x2048_0_1_2_3 (broadcastInDim S1x1x2048x2048 ![2, 3] bcast_S2048x2048_S1x1x2048x2048_2_3 (andi (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (addi (broadcastInDim S2048x1 ![0] bcast_S2048_S2048x1_0 (iotaInDim S2048 32 0)) (broadcastInDim S2048x1 ![] bcast_S_S2048x1 (constantI S_ 32 204#32))))) (cmpi .sge (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (subi (broadcastInDim S2048x1 ![0] bcast_S2048_S2048x1_0 (iotaInDim S2048 32 0)) (broadcastInDim S2048x1 ![] bcast_S_S2048x1 (constantI S_ 32 204#32))))))))

/-- The result of the reference. -/
def outR (X : FVec Ideal S1x16x2048x2048 .f32) : FVec Ideal S1x16x2048x2048 .f32 :=
  select (ori (broadcastInDim S1x16x2048x2048 ![0, 1, 2, 3] bcast_S1x16x1x2048_S1x16x2048x2048_0_1_2_3 (broadcastInDim S1x16x1x2048 ![0, 1, 3] bcast_S1x16x2048_S1x16x1x2048_0_1_3 (hitsR (sumsR X)))) bandR) X (broadcastInDim S1x16x2048x2048 ![] bcast_S_S1x16x2048x2048 (constant S_ .f32 0xFF7FFFFF#32))

/-- The reference's result is the composition of these. -/
theorem res_eq (m : (ℓ : Loc nD τ sig) → Buf (Elt Ideal) ℓ) (c : Dev nD) :
    Cert.ReferenceIdeal.Value.res_main_v61 m c = outR (m ((c.tc : Thread nD τ).loc main_arg0)) := by
  rfl

/-! ## The column sums -/

/-- The softmax of a row at a column: the exponentials of the entries less their maximum, over their sum. -/
def soft (row : Fin 2048 → EReal) (l : Fin 2048) : EReal :=
  Ideal.div (Ideal.exp (row l - (Finset.univ : Finset (Fin 2048)).fold max (Ideal.ofBits FTy.f32 4286578688#32) row))
    (∑ l' : Fin 2048, Ideal.exp (row l' - (Finset.univ : Finset (Fin 2048)).fold max (Ideal.ofBits FTy.f32 4286578688#32) row))

/-- The maximum of a row from minus infinity. -/
theorem reduce_max_at (X : FVec Ideal S1x16x2048x2048 .f32) (h : Fin 16) (r : Fin 2048) :
    Host.reduce FloatOps.maximumf X (constant (F := Ideal) S_ .f32 0xFF800000#32) reducesTo_S1x16x2048x2048_S1x16x2048_d3 h_S_ (ix3 0 h r)
      = (Finset.univ : Finset (Fin 2048)).fold FloatOps.maximumf (Ideal.ofBits FTy.f32 4286578688#32) fun l => X (ix4 0 h r l) :=
  (Host.reduce_eq_fold _ _ _ _ _ _).trans
    (Shape.ReducesTo.fold_fiber_r4_a3 reducesTo_S1x16x2048x2048_S1x16x2048_d3 (ix3 0 h r) FloatOps.maximumf _ X)

/-- The maxima are spread over the columns; the maximum with minus infinity changes nothing. -/
theorem spread_at (Y : FVec Ideal S1x16x2048 .f32) (h : Fin 16) (r l : Fin 2048) :
    broadcastInDim S1x16x2048x2048 ![0, 1, 2, 3] bcast_S1x16x2048x1_S1x16x2048x2048_0_1_2_3 (broadcastInDim S1x16x2048x1 ![0, 1, 2] bcast_S1x16x2048_S1x16x2048x1_0_1_2
      (maximumf (broadcastInDim S1x16x2048 ![] bcast_S_S1x16x2048 (constant S_ .f32 0xFF800000#32)) Y)) (ix4 0 h r l) = Y (ix3 0 h r) := by
  have e : broadcastInDim S1x16x2048x2048 ![0, 1, 2, 3] bcast_S1x16x2048x1_S1x16x2048x2048_0_1_2_3 (broadcastInDim S1x16x2048x1 ![0, 1, 2] bcast_S1x16x2048_S1x16x2048x1_0_1_2
      (maximumf (broadcastInDim S1x16x2048 ![] bcast_S_S1x16x2048 (constant S_ .f32 0xFF800000#32)) Y)) (ix4 0 h r l)
      = max (Ideal.ofBits FTy.f32 4286578688#32) (Y (ix3 0 h r)) := by pointwise
  have hb : Ideal.ofBits FTy.f32 4286578688#32 = ⊥ := EReal.neg_eq_top_iff.mp rfl
  rw [e, hb]
  exact bot_sup_eq _

/-- The exponentials at an index. -/
theorem expR_at (X : FVec Ideal S1x16x2048x2048 .f32) (h : Fin 16) (r l : Fin 2048) :
    expR X (ix4 0 h r l) = Ideal.exp (X (ix4 0 h r l) - (Finset.univ : Finset (Fin 2048)).fold max (Ideal.ofBits FTy.f32 4286578688#32) fun l => X (ix4 0 h r l)) := by
  have e : expR X (ix4 0 h r l) = Ideal.exp (X (ix4 0 h r l) - maxR X (ix4 0 h r l)) := by pointwise [expR]
  rw [e]
  refine congrArg (fun z : EReal => Ideal.exp (X (ix4 0 h r l) - z)) ?_
  unfold maxR
  exact (spread_at _ h r l).trans (reduce_max_at X h r)

/-- The column sums at an index. -/
theorem sumsR_at (X : FVec Ideal S1x16x2048x2048 .f32) (h : Fin 16) (l : Fin 2048) :
    sumsR X (ix3 0 h l) = ∑ r : Fin 2048, soft (fun l' => X (ix4 0 h r l')) l := by
  have e : sumsR X (ix3 0 h l) = ∑ r : Fin 2048, Ideal.div (expR X (ix4 0 h r l)) (∑ l' : Fin 2048, expR X (ix4 0 h r l')) := by
    pointwise [sumsR]
  rw [e]
  refine Finset.sum_congr rfl fun r _ => ?_
  unfold soft
  rw [expR_at]
  exact congrArg _ (Finset.sum_congr rfl fun l' _ => expR_at X h r l')

/-! ## The marked columns -/

/-- An index of the sums with its column replaced. -/
theorem along_at (h : Fin 16) (i k : Fin 2048) : Shape.Idx.along (s := S1x16x2048) (ix3 0 h i) 2 k = ix3 0 h k := by
  funext a
  fin_cases a <;> rfl

/-- The reading of a slice from the front. -/
theorem front_at (v : IVec S1x16x2048 32) (h : Fin 16) (j : Fin 204) :
    extractStridedSlice S1x16x204 (fun _ => 0) v sliceFits_S1x16x2048_S1x16x204 (ix3 0 h j) = v (ix3 0 h ⟨j.val, by omega⟩) := by
  pointwise

/-- The column the stable sort of a head's sums puts in place `j`. -/
def place (S : FVec Ideal S1x16x2048 .f32) (h : Fin 16) (j : Fin 204) : Fin 2048 :=
  sortedFrom (fun a b : Fin 2048 => decide ((S (ix3 0 h b) : EReal) < S (ix3 0 h a))) ⟨j.val, by omega⟩

/-- The column in place `j` of the 204 greatest, as the stable sort gives it. -/
theorem topR_at (S : FVec Ideal S1x16x2048 .f32) (h : Fin 16) (j : Fin 204) :
    topR S (ix3 0 h j) = BitVec.ofNat 32 (place S h j).val := by
  unfold topR Host.topK
  dsimp only
  rw [front_at]
  unfold Host.sort2
  rw [dif_pos (by decide)]
  dsimp only
  rw [dif_pos (by decide)]
  have hcmp : (fun a b : Fin 2048 => FloatOps.cmpfTotal (F := Ideal) (φ := .f32) .gt (S (Shape.Idx.along (s := S1x16x2048) (ix3 0 h ⟨j.val, by omega⟩) 2 a))
      (S (Shape.Idx.along (s := S1x16x2048) (ix3 0 h ⟨j.val, by omega⟩) 2 b)) == 1#1)
      = fun a b : Fin 2048 => decide ((S (ix3 0 h b) : EReal) < S (ix3 0 h a)) := by
    funext a b
    rw [along_at, along_at, beq_eq_decide]
    exact decide_eq_decide.2 (ofBool_one _)
  show BitVec.ofNat 32 ((Shape.Idx.along (s := S1x16x2048) (ix3 0 h ⟨j.val, by omega⟩) 2 (sortedFrom (n := 2048) (fun a b : Fin 2048 => FloatOps.cmpfTotal (F := Ideal) (φ := .f32) .gt (S (Shape.Idx.along (s := S1x16x2048) (ix3 0 h ⟨j.val, by omega⟩) 2 a))
      (S (Shape.Idx.along (s := S1x16x2048) (ix3 0 h ⟨j.val, by omega⟩) 2 b)) == 1#1) ⟨j.val, by omega⟩)) 2).val = _
  rw [hcmp, along_at]
  rfl

/-- The batch word of a marked column. -/
theorem pos0 (S : FVec Ideal S1x16x2048 .f32) (h : Fin 16) (j : Fin 204) : posR S (ix4 0 h j 0) = 0#32 := by
  pointwise [posR, batchR, headR, colR]
  rfl

/-- The head word of a marked column. -/
theorem pos1 (S : FVec Ideal S1x16x2048 .f32) (h : Fin 16) (j : Fin 204) : posR S (ix4 0 h j 1) = BitVec.ofNat 32 h.val := by
  pointwise [posR, batchR, headR, colR]
  exact Routing.wrap_of_lt _ _ (by rw [BitVec.toNat_ofNat]; show _ < 2 ^ 31; omega)

/-- The column word of a marked column. -/
theorem pos2 (S : FVec Ideal S1x16x2048 .f32) (h : Fin 16) (j : Fin 204) : posR S (ix4 0 h j 2) = topR S (ix3 0 h j) := by
  pointwise [posR, batchR, headR, colR]
  refine Routing.wrap_of_lt _ _ ?_
  rw [topR_at, BitVec.toNat_ofNat]
  show _ < 2 ^ 31
  have := (place S h j).isLt
  omega

/-- An update lands at the element its three words name. -/
theorem lands (idx : IVec S1x16x204x3 32) (h h' : Fin 16) (j : Fin 204) (l : Fin 2048) :
    scatter_S1x16x2048_S1x16x204x3_S1x16x204_n_012_012_3.resultIdx? (ix3 0 h' j) idx = some (ix3 0 h l)
      ↔ (idx (ix4 0 h' j 0)).toInt = 0 ∧ (idx (ix4 0 h' j 1)).toInt = h.val ∧ (idx (ix4 0 h' j 2)).toInt = l.val := by
  have hs : ∀ q : Fin 3, scatter_S1x16x2048_S1x16x204x3_S1x16x204_n_012_012_3.start (ix3 0 h' j) idx q = (idx (ix4 0 h' j q)).toInt := fun q => by
    have hm : q ∈ scatter_S1x16x2048_S1x16x204x3_S1x16x204_n_012_012_3.scatterDimsToOperandDims := by revert q; decide
    unfold ScatterDims.start
    rw [dif_pos hm]
    refine congrArg (fun i => (idx i).toInt) ?_
    funext a
    fin_cases q <;> fin_cases a <;> rfl
  have hw : ∀ q : Fin 3, scatter_S1x16x2048_S1x16x204x3_S1x16x204_n_012_012_3.window (ix3 0 h' j) q = 0 := fun q => by
    fin_cases q <;> rfl
  rw [Routing.resultIdx?_eq_some]
  constructor
  · intro H
    have h0 := H 0
    have h1 := H 1
    have h2 := H 2
    rw [hs, hw] at h0 h1 h2
    simpa [ix3] using And.intro h0 (And.intro h1 h2)
  · rintro ⟨h0, h1, h2⟩ q
    rw [hs, hw]
    fin_cases q
    · simpa using h0
    · simpa using h1
    · simpa using h2

/-- A column is marked exactly when its rank among the sums of its head is below 204. -/
theorem hitsR_at (S : FVec Ideal S1x16x2048 .f32) (h : Fin 16) (l : Fin 2048) :
    hitsR S (ix3 0 h l) = 1#1 ↔ rankOf (α := EReal) (fun x => S (ix3 0 h x)) l < 204 := by
  have hsh : (∃ j, place S h j = l) ↔ rankOf (α := EReal) (fun x => S (ix3 0 h x)) l < 204 := sorted_hit _ l
  rw [← hsh]
  have hl : ∀ (h' : Fin 16) (j : Fin 204), scatter_S1x16x2048_S1x16x204x3_S1x16x204_n_012_012_3.resultIdx? (ix3 0 h' j) (posR S) = some (ix3 0 h l)
      ↔ h' = h ∧ place S h' j = l := fun h' j => by
    rw [lands, pos0, pos1, pos2, topR_at]
    have hp := (place S h' j).isLt
    generalize place S h' j = p at hp ⊢
    rw [show (0#32).toInt = 0 from rfl, WordCmp.toInt_ofNat_of_lt (show h'.val < 2 ^ 31 by omega), WordCmp.toInt_ofNat_of_lt (show p.val < 2 ^ 31 by omega), Fin.ext_iff, Fin.ext_iff]
    constructor
    · rintro ⟨-, h1, h2⟩; exact ⟨Int.ofNat_inj.1 h1, Int.ofNat_inj.1 h2⟩
    · rintro ⟨h1, h2⟩; exact ⟨rfl, Int.ofNat_inj.2 h1, Int.ofNat_inj.2 h2⟩
  have hk : ∀ k : S1x16x204.Idx, ∃ (h' : Fin 16) (j : Fin 204), k = ix3 0 h' j := fun k => ⟨k 1, k 2, by
    funext a; fin_cases a
    · exact Fin.ext (Nat.lt_one_iff.mp (k 0).isLt)
    · rfl
    · rfl⟩
  constructor
  · intro H
    by_contra hc
    have hm : hitsR S (ix3 0 h l) = 0#1 := by
      unfold hitsR
      refine (Routing.scatter_set_miss _ _ _ _ _ fun k hk' => ?_).trans rfl
      obtain ⟨h', j, rfl⟩ := hk k
      obtain ⟨rfl, e⟩ := (hl h' j).1 hk'
      exact hc ⟨j, e⟩
    rw [hm] at H
    exact absurd H (by decide)
  · rintro ⟨j, e⟩
    unfold hitsR
    exact Routing.scatter_set_hit _ _ _ _ _ 1#1 (fun k _ => rfl) (ix3 0 h j) ((hl h j).2 ⟨rfl, e⟩)

/-- The band test in words. -/
theorem near_words (r l : Fin 2048) : IntOp.andi (IntOp.cmpi CmpIPredicate.sle (BitVec.ofNat 32 l.val) (IntOp.addi (BitVec.ofNat 32 r.val) 204#32))
    (IntOp.cmpi CmpIPredicate.sge (BitVec.ofNat 32 l.val) (IntOp.subi (BitVec.ofNat 32 r.val) 204#32)) = BitVec.ofBool (decide (near r.val l.val)) := by
  have hr := r.isLt
  have hl := l.isLt
  have e1 : IntOp.addi (BitVec.ofNat 32 r.val) 204#32 = BitVec.ofNat 32 (r.val + 204) := (BitVec.ofNat_add ..).symm
  have e2 : (IntOp.subi (BitVec.ofNat 32 r.val) 204#32).toInt = (r.val : ℤ) - 204 := by
    show (BitVec.ofNat 32 r.val - 204#32).toInt = _
    rw [BitVec.toInt_sub, WordCmp.toInt_ofNat_of_lt (by show _ < 2 ^ 31; omega)]
    show ((r.val : ℤ) - 204).bmod (2 ^ 32) = _
    exact Int.bmod_eq_of_le (by omega) (by omega)
  rw [e1, WordCmp.cmpi_sle_ofNat (by show _ < 2 ^ 31; omega) (by show _ < 2 ^ 31; omega), WordCmp.cmpi_sge_eq, e2, WordCmp.toInt_ofNat_of_lt (by show _ < 2 ^ 31; omega)]
  unfold near
  by_cases a : l.val ≤ r.val + 204 <;> by_cases b : r.val ≤ l.val + 204
  · simp [IntOp.andi, a, b, show ((r.val : ℤ) - 204 ≤ l.val) by omega]
  · simp [IntOp.andi, a, b, show ¬ ((r.val : ℤ) - 204 ≤ l.val) by omega]
  · simp [IntOp.andi, a, b]
  · simp [IntOp.andi, a, b]

/-- The result of the reference at an index: the entry on the band and in the marked columns, the least finite value elsewhere. -/
theorem outR_at (X : FVec Ideal S1x16x2048x2048 .f32) (h : Fin 16) (r l : Fin 2048) :
    outR X (ix4 0 h r l) = if near r.val l.val ∨ rankOf (α := EReal) (fun x => sumsR X (ix3 0 h x)) l < 204 then X (ix4 0 h r l)
      else Scalar.ofBits (F := Ideal) .f32 0xFF7FFFFF#32 := by
  have e : outR X (ix4 0 h r l) = Scalar.select (IntOp.ori (hitsR (sumsR X) (ix3 0 h l))
      (IntOp.andi (IntOp.cmpi CmpIPredicate.sle (BitVec.ofNat 32 l.val) (IntOp.addi (BitVec.ofNat 32 r.val) 204#32))
        (IntOp.cmpi CmpIPredicate.sge (BitVec.ofNat 32 l.val) (IntOp.subi (BitVec.ofNat 32 r.val) 204#32))))
      (X (ix4 0 h r l)) (Scalar.ofBits (F := Ideal) .f32 0xFF7FFFFF#32) := by
    pointwise [outR, bandR]
  have hh := hitsR_at (sumsR X) h l
  rw [e, near_words]
  generalize hitsR (sumsR X) (ix3 0 h l) = w at hh ⊢
  have hor : ∀ (w : BitVec 1) (p : Prop) [Decidable p], IntOp.ori w (BitVec.ofBool (decide p)) = 1#1 ↔ p ∨ w = 1#1 := by
    intro w p _
    have hw : ∀ w : BitVec 1, w = 0#1 ∨ w = 1#1 := by decide
    by_cases hp : p <;> rcases hw w with rfl | rfl <;> simp [hp, IntOp.ori]
  exact if_congr ((hor w _).trans (or_congr Iff.rfl hh)) rfl rfl

end Cert.Proof.Ref

end
-- ==== Proof.Value.lean ====
/- The kernel's result array at an index, and the row blocks as parts of the argument. -/
module

public import proofs.«01_k».proof.Proof.Body
public import Idealize.ShloMosaic.Lib.Pipeline.ValueKit
public import Idealize.ShloMosaic.Lib.Claim
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The windows' block indices. -/
theorem idx_val : ∀ t : Fin cfg0.N, win0_0.index t = ![t.val / 9, min (t.val % 9) 7, 0] ∧ win0_1.index t = ![t.val / 9, 0, 0] ∧ t.val / 9 < 16 :=
  (by decide +kernel : ∀ t : Fin grid0.N, win0_0.index t = ![t.val / 9, min (t.val % 9) 7, 0] ∧ win0_1.index t = ![t.val / 9, 0, 0] ∧ t.val / 9 < 16)

/-- The argument. -/
abbrev argX (c : Dev nD) : Vec Ideal S1x16x2048x2048 .f32 := m ((c : Thread nD τ).loc main_arg0)

/-- The kernel's operand is the argument, its two leading axes joined. -/
theorem V_v0 (c : Dev nD) : (V m c main_v0 : Vec Ideal S16x2048x2048 .f32)
    = shapeCast S16x2048x2048 (argX m c) shapeCasts_S1x16x2048x2048_S16x2048x2048 := by
  rfl

/-- The joined argument at an index. -/
theorem cast_at (X : Vec Ideal S1x16x2048x2048 .f32) (h : Fin 16) (r l : Fin 2048) :
    shapeCast S16x2048x2048 X shapeCasts_S1x16x2048x2048_S16x2048x2048 (ix3 h r l) = X (ix4 0 h r l) := by
  pointwise

/-- A row block at an index is the argument there. -/
theorem iblk_at (c : Dev nD) (t : Fin cfg0.N) (r : Fin 256) (l : Fin 2048) :
    (iblk m c 0 t : Vec Ideal S1x256x2048 .f32) (ix3 0 r l)
      = argX m c (ix4 0 ⟨t.val / 9, (idx_val t).2.2⟩ ⟨256 * min (t.val % 9) 7 + r.val, by omega⟩ l) := by
  refine Eq.trans ?_ (cast_at (argX m c) ⟨t.val / 9, (idx_val t).2.2⟩ ⟨256 * min (t.val % 9) 7 + r.val, by omega⟩ l)
  rw [← V_v0]
  blk_simp [iblk]
  refine congrArg (V m c main_v0) ?_
  blk_ext [idx_val t]

/-- The result array after the run. -/
theorem final (c : Dev nD) : (dats m 0 c).arrAt 1 (cfgs 0).N
    = (fun i => resBlk m c (i 0).val (ix3 0 (i 1) (i 2)) : Vec Ideal S16x2048x2048 .f32) := by
  refine (dats m 0 c).arrAt_eq_of_covers 1 _ (by decide +kernel) fun t hf y => ?_
  blk_simp
  rw [after_out]
  have e0 : (win0_1.index t 0) = t.val / 9 := by rw [(idx_val t).2.1]; rfl
  rw [e0]
  refine congrArg (resBlk m c (t.val / 9)) ?_
  blk_ext [idx_val t]
end Cert.Proof

end
-- ==== Proof.Sums.lean ====
/- The running column sums of a head are the sums of its softmax columns, and the copy of the head is the head. -/
module

public import proofs.«01_k».proof.Proof.Ref
public import proofs.«01_k».proof.Proof.Value

@[expose] public section

set_option maxRecDepth 16384

noncomputable section

namespace Cert.Proof

open Cert.KernelIdeal Cert.KernelIdeal.Gen
open Idealize.ShloMosaic Idealize.ShloMosaic.TcCoe Idealize.ShloMosaic.Tactic

/-- A block's column sum: the sum over its rows of their softmax at the column. -/
theorem pay2_at (x : Vec Ideal S1x256x2048 .f32) (l : Fin 2048) :
    (k0_pay2 x (ix2 0 l) : EReal) = ∑ r : Fin 256, Ref.soft (fun l' => x (ix3 0 r l')) l := by
  have e : ∀ (r : Fin 256) (l' : Fin 2048), k0_pay1 x (ix2 r l') = x (ix3 0 r l') := fun r l' => by pointwise [k0_pay1]
  have h : (k0_pay2 x (ix2 0 l) : EReal) = ∑ r : Fin 256, Ref.soft (fun l' => k0_pay1 x (ix2 r l')) l := by
    unfold Ref.soft
    pointwise [k0_pay2]
  rw [h]
  exact Finset.sum_congr rfl fun r _ => by rw [show (fun l' => k0_pay1 x (ix2 r l')) = fun l' => x (ix3 0 r l') from funext (e r)]

/-- The first block starts the sums with its own. -/
theorem pay3_at (x : Vec Ideal S1x256x2048 .f32) (l : Fin 2048) : (k0_pay3 x (ix2 0 l) : EReal) = k0_pay2 x (ix2 0 l) := by
  pointwise [k0_pay3]

/-- A later block adds its own. -/
theorem pay4_at (x : Vec Ideal S1x256x2048 .f32) (o : Vec Ideal S1x2048 .f32) (l : Fin 2048) :
    (k0_pay4 x o (ix2 0 l) : EReal) = (o (ix2 0 l) + k0_pay2 x (ix2 0 l) : EReal) := by
  pointwise [k0_pay4]

variable (m : (ℓ : Loc nD τ sig) → Buf (Elt Ideal) ℓ)

/-- Block `s` of head `h` at an index is the argument there. -/
theorem blkN_at (c : Dev nD) (h : Fin 16) (s : ℕ) (hs : s ≤ 7) (r : Fin 256) (l : Fin 2048) :
    blkN m c (9 * h.val + s) (ix3 0 r l) = argX m c (ix4 0 h ⟨256 * s + r.val, by omega⟩ l) := by
  have hN : 9 * h.val + s < cfg0.N := by rw [N_eq]; omega
  have e := blkN_val m c ⟨9 * h.val + s, hN⟩
  rw [show blkN m c (9 * h.val + s) = _ from e, iblk_at]
  have e1 : (⟨(9 * h.val + s) / 9, (idx_val ⟨9 * h.val + s, hN⟩).2.2⟩ : Fin 16) = h := Fin.ext (by show (9 * h.val + s) / 9 = h.val; omega)
  have e2 : 256 * min ((9 * h.val + s) % 9) 7 + r.val = 256 * s + r.val := by omega
  have e3 : (⟨256 * min ((9 * h.val + s) % 9) 7 + r.val, by omega⟩ : Fin 2048) = ⟨256 * s + r.val, by omega⟩ := Fin.ext e2
  exact congrArg₂ (fun a b => argX m c (ix4 0 a b l)) e1 e3

/-- The copy of head `h` at an index is the argument there. -/
theorem rowsF_at (c : Dev nD) (h : Fin 16) (r l : Fin 2048) : rowsF m c h.val (ix2 r l) = argX m c (ix4 0 h r l) := by
  refine (blkN_at m c h (r.val / 256) (by omega) ⟨r.val % 256, Nat.mod_lt _ (by decide)⟩ l).trans ?_
  refine congrArg (fun a => argX m c (ix4 0 h a l)) (Fin.ext ?_)
  show 256 * (r.val / 256) + r.val % 256 = r.val
  omega

/-- The softmax of row `i` of head `h` at column `l`; zero past the last row. -/
def term (c : Dev nD) (h : Fin 16) (l : Fin 2048) (i : ℕ) : EReal :=
  if hi : i < 2048 then Ref.soft (fun l' => argX m c (ix4 0 h ⟨i, hi⟩ l')) l else 0

/-- The column sums of block `s` of head `h`. -/
theorem block_sum (c : Dev nD) (h : Fin 16) (s : ℕ) (hs : s ≤ 7) (l : Fin 2048) :
    (k0_pay2 (blkN m c (9 * h.val + s)) (ix2 0 l) : EReal) = ∑ r ∈ Finset.range 256, term m c h l (256 * s + r) := by
  rw [pay2_at, Finset.sum_range]
  refine Finset.sum_congr rfl fun r _ => ?_
  unfold term
  rw [dif_pos (by omega : 256 * s + r.val < 2048)]
  exact congrArg (fun f => Ref.soft f l) (funext fun l' => blkN_at m c h s hs r l')

/-- After step `s` the running sums are over the first `256 (s + 1)` rows. -/
theorem acc_at (c : Dev nD) (h : Fin 16) (l : Fin 2048) (s : ℕ) (hs : s ≤ 7) :
    (acc m c h.val s (ix2 0 l) : EReal) = ∑ i ∈ Finset.range (256 * (s + 1)), term m c h l i := by
  induction s with
  | zero =>
    unfold acc
    rw [pay3_at]
    refine (block_sum m c h 0 (Nat.zero_le _) l).trans (Finset.sum_congr rfl fun r _ => ?_)
    rw [Nat.mul_zero, Nat.zero_add]
  | succ s ih =>
    unfold acc
    rw [pay4_at, ih (by omega), block_sum m c h (s + 1) hs l, ← Finset.sum_range_add, Nat.mul_add 256 (s + 1) 1]

/-- The finished sums of a head are the reference's. -/
theorem acc_sumsR (c : Dev nD) (h : Fin 16) (l : Fin 2048) :
    (acc m c h.val 7 (ix2 0 l) : EReal) = Ref.sumsR (argX m c) (ix3 0 h l) := by
  rw [acc_at m c h l 7 (le_refl _), Ref.sumsR_at, Finset.sum_range]
  refine Finset.sum_congr rfl fun r _ => ?_
  unfold term
  rw [dif_pos r.isLt]

/-- The result block of a head is the reference's head. -/
theorem resBlk_at (c : Dev nD) (h : Fin 16) (r l : Fin 2048) :
    resBlk m c h.val (ix3 0 r l) = Ref.outR (argX m c) (ix4 0 h r l) := by
  rw [Ref.outR_at]
  have e : (fun x => acc m c h.val 7 (ix2 0 x)) = fun x => Ref.sumsR (argX m c) (ix3 0 h x) := funext fun x => acc_sumsR m c h x
  have hf := flags_iff (acc m c h.val 7) l
  rw [e] at hf
  show (if near r.val l.val ∨ flagsOf (acc m c h.val 7) (ix2 0 l) ≠ 0#32 then rowsF m c h.val (ix2 r l) else _) = _
  rw [rowsF_at]
  exact if_congr (or_congr Iff.rfl hf) rfl rfl

end Cert.Proof

end
-- ==== Proof.Algebraic.lean ====
/- The value claim: on extended reals the idealized kernel's result is the reference's. -/
module

public import proofs.«01_k».proof.Proof.Frames
public import proofs.«01_k».proof.Proof.Sums

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ)

/-- The last line gives the head axis its leading axis back. -/
theorem split_at (Y : Vec Ideal S16x2048x2048 .f32) (h : Fin 16) (r l : Fin 2048) :
    shapeCast S1x16x2048x2048 Y shapeCasts_S16x2048x2048_S1x16x2048x2048 (ix4 0 h r l) = Y (ix3 h r l) := by
  pointwise

/-- The result is the launch's array, split. -/
theorem tail_eq (c : Dev nD) : (Pipeline.afterTail₀ cfgs (dats m) 0 (V0 m) [hostOps1] c main_v2 : Vec Ideal S1x16x2048x2048 .f32)
    = shapeCast S1x16x2048x2048 ((dats m 0 c).arrAt 1 (cfgs 0).N : Vec Ideal S16x2048x2048 .f32) shapeCasts_S16x2048x2048_S1x16x2048x2048 := by
  unfold Pipeline.afterTail₀
  refine Eq.trans (b := shapeCast S1x16x2048x2048 (Pipeline.withArrays (cfgs 0).spec c (V0 m c) (fun w => (dats m 0 c).arrAt w (cfgs 0).N) (Proc.devRef .tc main_v1) : Vec Ideal S16x2048x2048 .f32) shapeCasts_S16x2048x2048_S1x16x2048x2048) rfl ?_
  exact congrArg (fun Y : Vec Ideal S16x2048x2048 .f32 => shapeCast S1x16x2048x2048 Y shapeCasts_S16x2048x2048_S1x16x2048x2048)
    (Pipeline.withArrays_arr (cfgs 0).spec (by decide) c (V0 m c) (fun w => (dats m 0 c).arrAt w (cfgs 0).N) 1)

/-- The kernel's result is the reference's function of the argument. -/
theorem result_eq (c : Dev nD) : (Pipeline.afterTail₀ cfgs (dats m) 0 (V0 m) [hostOps1] c main_v2 : Vec Ideal S1x16x2048x2048 .f32)
    = Ref.outR (argX m c) := by
  rw [tail_eq, final]
  funext y
  obtain ⟨h, r, l, rfl⟩ : ∃ (h : Fin 16) (r l : Fin 2048), y = ix4 0 h r l :=
    ⟨y 1, y 2, y 3, by funext a; fin_cases a; · exact Subsingleton.elim (α := Fin 1) _ _
                       · rfl
                       · rfl
                       · rfl⟩
  rw [split_at]
  exact resBlk_at m c h r l

/-- The value claim: the idealized kernel and the reference, run on one argument, end with one result. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Ref.outR (argX m c), ?_, ?_⟩
  · exact (θ_run defs _ _).mono (fun r h c =>
      ⟨((h.1 c).2 main_v2 (Pipeline.mem_restRefs_of main_v2 (by decide) (by decide))).trans (result_eq m c),
        ((h.1 c).2 main_arg0 (Pipeline.mem_restRefs_of main_arg0 (by decide) (by decide))).trans (W_main_arg0 m (dats m) c)⟩) (run_main m g)
  · exact (θ_run Cert.ReferenceIdeal.defs _ _).mono (fun r h c =>
      ⟨((h c).1.trans (Ref.res_eq m' c)).trans (congrArg Ref.outR (hm c)), (h c).2⟩)
      (Cert.ReferenceIdeal.Value.run (F := Ideal) m' g')

end Cert.Proof

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
